-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
-- ==== Pre_routed.lean ====
abbrev S38912x2048 : Shape := ⟨2, ![38912, 2048]⟩
abbrev S76 : Shape := ⟨1, ![76]⟩
abbrev S1 : Shape := ⟨1, ![1]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S1 : S_.BroadcastsInDim S1 (![] : Fin 0 → Fin S1.rank)
  bcast_S_S76 : S_.BroadcastsInDim S76 (![] : Fin 0 → Fin S76.rank)
  bcast_S1_S76_0 : S1.BroadcastsInDim S76 (![0] : Fin 1 → Fin S76.rank)

variable [Facts]

def fn {F : FTy → Type} [FloatOps F] (main_arg0 : FVec F S38912x2048 .f32) (main_arg1 : IVec S76 32) (main_arg2 : IVec S1 32) (main_arg3 : FVec F S8x2048x7168 .f32) (main_arg4 : FVec F S8x2048x7168 .f32) (main_arg5 : FVec F S8x7168x2048 .f32) : IVec S76 1 :=
  let main_c : IVec S_ 32 := constantI S_ 32 1#32
  let main_v0 : IVec S1 32 := broadcastInDim S1 ![] bcast_S_S1 main_c
  let main_v1 : IVec S1 1 := cmpi .sge main_arg2 main_v0
  let main_c_0 : IVec S_ 32 := constantI S_ 32 0#32
  let main_v2 : IVec S76 32 := broadcastInDim S76 ![] bcast_S_S76 main_c_0
  let main_v3 : IVec S76 1 := cmpi .sge main_arg1 main_v2
  let main_v4 : IVec S76 1 := broadcastInDim S76 ![0] bcast_S1_S76_0 main_v1
  let main_v5 : IVec S76 1 := andi main_v4 main_v3
  let main_c_1 : IVec S_ 32 := constantI S_ 32 8#32
  let main_v6 : IVec S76 32 := broadcastInDim S76 ![] bcast_S_S76 main_c_1
  let main_v7 : IVec S76 1 := cmpi .slt main_arg1 main_v6
  let main_v8 : IVec S76 1 := andi main_v5 main_v7
  main_v8
-- ==== Kernel.lean ====
abbrev S38912x2048 : Shape := ⟨2, ![38912, 2048]⟩
abbrev S76 : Shape := ⟨1, ![76]⟩
abbrev S1 : Shape := ⟨1, ![1]⟩
abbrev S8x2048x7168 : Shape := ⟨3, ![8, 2048, 7168]⟩
abbrev S8x7168x2048 : Shape := ⟨3, ![8, 7168, 2048]⟩
abbrev S_ : Shape := ⟨0, ![]⟩
abbrev S76x1 : Shape := ⟨2, ![76, 1]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 25
  | .vmem => 11
  | .smem => 2
  | _ => 0

abbrev bufTy : (tb : Table) → Fin (tcTables nBuf tb) → BufTy
  | .hbm, ⟨0, _⟩ => ⟨S38912x2048, .f32⟩
  | .hbm, ⟨1, _⟩ => ⟨S76, .i32⟩
  | .hbm, ⟨2, _⟩ => ⟨S8x2048x7168, .f32⟩
  | .hbm, ⟨3, _⟩ => ⟨S8x2048x7168, .f32⟩
  | .hbm, ⟨4, _⟩ => ⟨S8x7168x2048, .f32⟩
  | .hbm, ⟨5, _⟩ => ⟨S8x2048x7168, .bf16⟩
  | .hbm, ⟨6, _⟩ => ⟨S8x2048x7168, .bf16⟩
  | .hbm, ⟨7, _⟩ => ⟨S8x7168x2048, .bf16⟩
  | .hbm, ⟨8, _⟩ => ⟨S76, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S76, .i32⟩
  | .hbm, ⟨13, _⟩ => ⟨S76, .i32⟩
  | .hbm, ⟨14, _⟩ => ⟨S_, .i32⟩
  | .hbm, ⟨15, _⟩ => ⟨S76, .i32⟩
  | .hbm, ⟨16, _⟩ => ⟨S76, .i1⟩
  | .hbm, ⟨17, _⟩ => ⟨S_, .i32⟩
  | .hbm, ⟨18, _⟩ => ⟨S76, .i32⟩
  | .hbm, ⟨19, _⟩ => ⟨S76, .i32⟩
  | .hbm, ⟨20, _⟩ => ⟨S76, .i32⟩
  | .hbm, ⟨21, _⟩ => ⟨S76x1, .i32⟩
  | .hbm, ⟨22, _⟩ => ⟨S_, .f32⟩
  | .hbm, ⟨23, _⟩ => ⟨S38912x2048, .f32⟩
  | .hbm, ⟨24, _⟩ => ⟨S38912x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .smem, ⟨0, _⟩ => ⟨S76, .i32⟩
  | .local _ .smem, ⟨1, _⟩ => ⟨S1, .i32⟩
  | _, _ => ⟨S38912x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v14 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![76, 14], ![false, false]⟩

abbrev pre0 : Pipeline.Prefetch sig := ⟨2, ![main_v14.idx, main_arg2.idx], fun | 0 => main_v14.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v6 : Index := Scalar.indexCast arg0
  ![v6.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_0 : BitVec 32 := 0#32
  let v4 : BitVec 1 := Scalar.cmpi .eq arg1 c0_i32_0
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c0_0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c13_i32 : BitVec 32 := 13#32
  let v5 : BitVec 32 := Scalar.select v1 arg1 c13_i32
  let c0_i32 : BitVec 32 := 0#32
  let c0_i32_1 : BitVec 32 := 0#32
  ![v4.toNat, c0_i32.toNat]

def cc0_transform_1 (inb_S1_S1_0 : ∀ a, (![0] : Fin 1 → Nat) a + S1.size a ≤ S1.size a) (numel1_S1 : S1.numel = 1) (k0_off1_inb : ∀ i : grid0.Coords, ∀ a, (k0_off1 i) a + S1.size a ≤ S76.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c0_0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c13_i32 : BitVec 32 := 13#32
  let v5 : BitVec 32 := Scalar.select v1 arg1 c13_i32
  let v6 : Index := Scalar.indexCast arg0
  let v7 : BitVec 32 := pf.at 0 (Rect.unit (s := S76) ![v6.toNat] S1.size (k0_off1_inb i)) numel1_S1
  let c0_i32 : BitVec 32 := 0#32
  let c0_i32_1 : BitVec 32 := 0#32
  ![v7.toNat, c0_i32.toNat, v5.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S76.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c0_0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c13_i32 : BitVec 32 := 13#32
  let v5 : BitVec 32 := Scalar.select v1 arg1 c13_i32
  let v6 : Index := Scalar.indexCast arg0
  let v7 : BitVec 32 := pf.at 0 (Rect.unit (s := S76) ![v6.toNat] S1.size (k0_off1_inb i)) numel1_S1
  let c0_i32 : BitVec 32 := 0#32
  let c0_i32_1 : BitVec 32 := 0#32
  ![v7.toNat, c0_i32.toNat, v5.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S76.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c0_0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c13_i32 : BitVec 32 := 13#32
  let v5 : BitVec 32 := Scalar.select v1 arg1 c13_i32
  let v6 : Index := Scalar.indexCast arg0
  let v7 : BitVec 32 := pf.at 0 (Rect.unit (s := S76) ![v6.toNat] S1.size (k0_off1_inb i)) numel1_S1
  let c0_i32 : BitVec 32 := 0#32
  let c0_i32_1 : BitVec 32 := 0#32
  ![v7.toNat, v5.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c0_0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c13_i32 : BitVec 32 := 13#32
  let v5 : BitVec 32 := Scalar.select v1 arg1 c13_i32
  let c0_i32 : BitVec 32 := 0#32
  let c0_i32_1 : BitVec 32 := 0#32
  ![v4.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S38912x2048 : Shape := ⟨2, ![38912, 2048]⟩
abbrev S76 : Shape := ⟨1, ![76]⟩
abbrev S1 : Shape := ⟨1, ![1]⟩
abbrev S8x2048x7168 : Shape := ⟨3, ![8, 2048, 7168]⟩
abbrev S8x7168x2048 : Shape := ⟨3, ![8, 7168, 2048]⟩
abbrev S_ : Shape := ⟨0, ![]⟩
abbrev S76x1 : Shape := ⟨2, ![76, 1]⟩
abbrev S1x8 : Shape := ⟨2, ![1, 8]⟩
abbrev S76x8 : Shape := ⟨2, ![76, 8]⟩
abbrev S76x512x8 : Shape := ⟨3, ![76, 512, 8]⟩
abbrev S38912x8 : Shape := ⟨2, ![38912, 8]⟩
abbrev S38912x1 : Shape := ⟨2, ![38912, 1]⟩
abbrev S1x2048x7168 : Shape := ⟨3, ![1, 2048, 7168]⟩
abbrev S2048x7168 : Shape := ⟨2, ![2048, 7168]⟩
abbrev S1x7168x2048 : Shape := ⟨3, ![1, 7168, 2048]⟩
abbrev S7168x2048 : Shape := ⟨2, ![7168, 2048]⟩
abbrev S38912x7168 : Shape := ⟨2, ![38912, 7168]⟩

abbrev nBuf : Space → Nat
  | .hbm => 208
  | .vmem => 0
  | .smem => 0
  | _ => 0

abbrev hbmTy0_0 (i : Nat) : BufTy := match i % 128 with
  | 0 => ⟨S38912x2048, .f32⟩
  | 1 => ⟨S76, .i32⟩
  | 2 => ⟨S1, .i32⟩
  | 3 => ⟨S8x2048x7168, .f32⟩
  | 4 => ⟨S8x2048x7168, .f32⟩
  | 5 => ⟨S8x7168x2048, .f32⟩
  | 6 => ⟨S76, .i32⟩
  | 7 => ⟨S_, .i32⟩
  | 8 => ⟨S76, .i32⟩
  | 9 => ⟨S76, .i1⟩
  | 10 => ⟨S_, .i32⟩
  | 11 => ⟨S_, .i32⟩
  | 12 => ⟨S76, .i32⟩
  | 13 => ⟨S76, .i32⟩
  | 14 => ⟨S76x1, .i32⟩
  | 15 => ⟨S1x8, .i32⟩
  | 16 => ⟨S76x8, .i32⟩
  | 17 => ⟨S76x8, .i32⟩
  | 18 => ⟨S76x8, .i1⟩
  | 19 => ⟨S76x8, .f32⟩
  | 20 => ⟨S76x512x8, .f32⟩
  | 21 => ⟨S38912x8, .f32⟩
  | 22 => ⟨S_, .f32⟩
  | 23 => ⟨S38912x2048, .f32⟩
  | 24 => ⟨S38912x1, .f32⟩
  | 25 => ⟨S1x2048x7168, .f32⟩
  | 26 => ⟨S2048x7168, .f32⟩
  | 27 => ⟨S1x2048x7168, .f32⟩
  | 28 => ⟨S2048x7168, .f32⟩
  | 29 => ⟨S1x7168x2048, .f32⟩
  | 30 => ⟨S7168x2048, .f32⟩
  | 31 => ⟨S38912x7168, .f32⟩
  | 32 => ⟨S38912x7168, .f32⟩
  | 33 => ⟨S38912x7168, .f32⟩
  | 34 => ⟨S_, .f32⟩
  | 35 => ⟨S38912x7168, .f32⟩
  | 36 => ⟨S38912x7168, .f32⟩
  | 37 => ⟨S_, .f32⟩
  | 38 => ⟨S38912x7168, .f32⟩
  | 39 => ⟨S38912x7168, .f32⟩
  | 40 => ⟨S38912x7168, .f32⟩
  | 41 => ⟨S38912x7168, .f32⟩
  | 42 => ⟨S38912x7168, .f32⟩
  | 43 => ⟨S38912x2048, .f32⟩
  | 44 => ⟨S38912x2048, .f32⟩
  | 45 => ⟨S38912x2048, .f32⟩
  | 46 => ⟨S38912x2048, .f32⟩
  | 47 => ⟨S38912x1, .f32⟩
  | 48 => ⟨S1x2048x7168, .f32⟩
  | 49 => ⟨S2048x7168, .f32⟩
  | 50 => ⟨S1x2048x7168, .f32⟩
  | 51 => ⟨S2048x7168, .f32⟩
  | 52 => ⟨S1x7168x2048, .f32⟩
  | 53 => ⟨S7168x2048, .f32⟩
  | 54 => ⟨S38912x7168, .f32⟩
  | 55 => ⟨S38912x7168, .f32⟩
  | 56 => ⟨S38912x7168, .f32⟩
  | 57 => ⟨S_, .f32⟩
  | 58 => ⟨S38912x7168, .f32⟩
  | 59 => ⟨S38912x7168, .f32⟩
  | 60 => ⟨S_, .f32⟩
  | 61 => ⟨S38912x7168, .f32⟩
  | 62 => ⟨S38912x7168, .f32⟩
  | 63 => ⟨S38912x7168, .f32⟩
  | 64 => ⟨S38912x7168, .f32⟩
  | 65 => ⟨S38912x7168, .f32⟩
  | 66 => ⟨S38912x2048, .f32⟩
  | 67 => ⟨S38912x2048, .f32⟩
  | 68 => ⟨S38912x2048, .f32⟩
  | 69 => ⟨S38912x2048, .f32⟩
  | 70 => ⟨S38912x1, .f32⟩
  | 71 => ⟨S1x2048x7168, .f32⟩
  | 72 => ⟨S2048x7168, .f32⟩
  | 73 => ⟨S1x2048x7168, .f32⟩
  | 74 => ⟨S2048x7168, .f32⟩
  | 75 => ⟨S1x7168x2048, .f32⟩
  | 76 => ⟨S7168x2048, .f32⟩
  | 77 => ⟨S38912x7168, .f32⟩
  | 78 => ⟨S38912x7168, .f32⟩
  | 79 => ⟨S38912x7168, .f32⟩
  | 80 => ⟨S_, .f32⟩
  | 81 => ⟨S38912x7168, .f32⟩
  | 82 => ⟨S38912x7168, .f32⟩
  | 83 => ⟨S_, .f32⟩
  | 84 => ⟨S38912x7168, .f32⟩
  | 85 => ⟨S38912x7168, .f32⟩
  | 86 => ⟨S38912x7168, .f32⟩
  | 87 => ⟨S38912x7168, .f32⟩
  | 88 => ⟨S38912x7168, .f32⟩
  | 89 => ⟨S38912x2048, .f32⟩
  | 90 => ⟨S38912x2048, .f32⟩
  | 91 => ⟨S38912x2048, .f32⟩
  | 92 => ⟨S38912x2048, .f32⟩
  | 93 => ⟨S38912x1, .f32⟩
  | 94 => ⟨S1x2048x7168, .f32⟩
  | 95 => ⟨S2048x7168, .f32⟩
  | 96 => ⟨S1x2048x7168, .f32⟩
  | 97 => ⟨S2048x7168, .f32⟩
  | 98 => ⟨S1x7168x2048, .f32⟩
  | 99 => ⟨S7168x2048, .f32⟩
  | 100 => ⟨S38912x7168, .f32⟩
  | 101 => ⟨S38912x7168, .f32⟩
  | 102 => ⟨S38912x7168, .f32⟩
  | 103 => ⟨S_, .f32⟩
  | 104 => ⟨S38912x7168, .f32⟩
  | 105 => ⟨S38912x7168, .f32⟩
  | 106 => ⟨S_, .f32⟩
  | 107 => ⟨S38912x7168, .f32⟩
  | 108 => ⟨S38912x7168, .f32⟩
  | 109 => ⟨S38912x7168, .f32⟩
  | 110 => ⟨S38912x7168, .f32⟩
  | 111 => ⟨S38912x7168, .f32⟩
  | 112 => ⟨S38912x2048, .f32⟩
  | 113 => ⟨S38912x2048, .f32⟩
  | 114 => ⟨S38912x2048, .f32⟩
  | 115 => ⟨S38912x2048, .f32⟩
  | 116 => ⟨S38912x1, .f32⟩
  | 117 => ⟨S1x2048x7168, .f32⟩
  | 118 => ⟨S2048x7168, .f32⟩
  | 119 => ⟨S1x2048x7168, .f32⟩
  | 120 => ⟨S2048x7168, .f32⟩
  | 121 => ⟨S1x7168x2048, .f32⟩
  | 122 => ⟨S7168x2048, .f32⟩
  | 123 => ⟨S38912x7168, .f32⟩
  | 124 => ⟨S38912x7168, .f32⟩
  | 125 => ⟨S38912x7168, .f32⟩
  | 126 => ⟨S_, .f32⟩
  | 127 => ⟨S38912x7168, .f32⟩
  | _ => ⟨S38912x2048, .f32⟩

abbrev hbmTy0_1 (i : Nat) : BufTy := match i % 128 with
  | 0 => ⟨S38912x7168, .f32⟩
  | 1 => ⟨S_, .f32⟩
  | 2 => ⟨S38912x7168, .f32⟩
  | 3 => ⟨S38912x7168, .f32⟩
  | 4 => ⟨S38912x7168, .f32⟩
  | 5 => ⟨S38912x7168, .f32⟩
  | 6 => ⟨S38912x7168, .f32⟩
  | 7 => ⟨S38912x2048, .f32⟩
  | 8 => ⟨S38912x2048, .f32⟩
  | 9 => ⟨S38912x2048, .f32⟩
  | 10 => ⟨S38912x2048, .f32⟩
  | 11 => ⟨S38912x1, .f32⟩
  | 12 => ⟨S1x2048x7168, .f32⟩
  | 13 => ⟨S2048x7168, .f32⟩
  | 14 => ⟨S1x2048x7168, .f32⟩
  | 15 => ⟨S2048x7168, .f32⟩
  | 16 => ⟨S1x7168x2048, .f32⟩
  | 17 => ⟨S7168x2048, .f32⟩
  | 18 => ⟨S38912x7168, .f32⟩
  | 19 => ⟨S38912x7168, .f32⟩
  | 20 => ⟨S38912x7168, .f32⟩
  | 21 => ⟨S_, .f32⟩
  | 22 => ⟨S38912x7168, .f32⟩
  | 23 => ⟨S38912x7168, .f32⟩
  | 24 => ⟨S_, .f32⟩
  | 25 => ⟨S38912x7168, .f32⟩
  | 26 => ⟨S38912x7168, .f32⟩
  | 27 => ⟨S38912x7168, .f32⟩
  | 28 => ⟨S38912x7168, .f32⟩
  | 29 => ⟨S38912x7168, .f32⟩
  | 30 => ⟨S38912x2048, .f32⟩
  | 31 => ⟨S38912x2048, .f32⟩
  | 32 => ⟨S38912x2048, .f32⟩
  | 33 => ⟨S38912x2048, .f32⟩
  | 34 => ⟨S38912x1, .f32⟩
  | 35 => ⟨S1x2048x7168, .f32⟩
  | 36 => ⟨S2048x7168, .f32⟩
  | 37 => ⟨S1x2048x7168, .f32⟩
  | 38 => ⟨S2048x7168, .f32⟩
  | 39 => ⟨S1x7168x2048, .f32⟩
  | 40 => ⟨S7168x2048, .f32⟩
  | 41 => ⟨S38912x7168, .f32⟩
  | 42 => ⟨S38912x7168, .f32⟩
  | 43 => ⟨S38912x7168, .f32⟩
  | 44 => ⟨S_, .f32⟩
  | 45 => ⟨S38912x7168, .f32⟩
  | 46 => ⟨S38912x7168, .f32⟩
  | 47 => ⟨S_, .f32⟩
  | 48 => ⟨S38912x7168, .f32⟩
  | 49 => ⟨S38912x7168, .f32⟩
  | 50 => ⟨S38912x7168, .f32⟩
  | 51 => ⟨S38912x7168, .f32⟩
  | 52 => ⟨S38912x7168, .f32⟩
  | 53 => ⟨S38912x2048, .f32⟩
  | 54 => ⟨S38912x2048, .f32⟩
  | 55 => ⟨S38912x2048, .f32⟩
  | 56 => ⟨S38912x2048, .f32⟩
  | 57 => ⟨S38912x1, .f32⟩
  | 58 => ⟨S1x2048x7168, .f32⟩
  | 59 => ⟨S2048x7168, .f32⟩
  | 60 => ⟨S1x2048x7168, .f32⟩
  | 61 => ⟨S2048x7168, .f32⟩
  | 62 => ⟨S1x7168x2048, .f32⟩
  | 63 => ⟨S7168x2048, .f32⟩
  | 64 => ⟨S38912x7168, .f32⟩
  | 65 => ⟨S38912x7168, .f32⟩
  | 66 => ⟨S38912x7168, .f32⟩
  | 67 => ⟨S_, .f32⟩
  | 68 => ⟨S38912x7168, .f32⟩
  | 69 => ⟨S38912x7168, .f32⟩
  | 70 => ⟨S_, .f32⟩
  | 71 => ⟨S38912x7168, .f32⟩
  | 72 => ⟨S38912x7168, .f32⟩
  | 73 => ⟨S38912x7168, .f32⟩
  | 74 => ⟨S38912x7168, .f32⟩
  | 75 => ⟨S38912x7168, .f32⟩
  | 76 => ⟨S38912x2048, .f32⟩
  | 77 => ⟨S38912x2048, .f32⟩
  | 78 => ⟨S38912x2048, .f32⟩
  | 79 => ⟨S38912x2048, .f32⟩
  | _ => ⟨S38912x2048, .f32⟩

abbrev hbmTy (i : Nat) : BufTy := match i / 128 with
  | 0 => hbmTy0_0 i
  | 1 => hbmTy0_1 i
  | _ => ⟨S38912x2048, .f32⟩

abbrev bufTy : (tb : Table) → Fin (tcTables nBuf tb) → BufTy
  | .hbm, ⟨i, _⟩ => hbmTy i
  | _, _ => ⟨S38912x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_v0 : Ref sig .tc := ⟨.hbm, 32, rfl⟩
abbrev main_call2_v1 : Ref sig .tc := ⟨.hbm, 33, rfl⟩
abbrev main_call2_cst : Ref sig .tc := ⟨.hbm, 34, rfl⟩
abbrev main_call2_v2 : Ref sig .tc := ⟨.hbm, 35, rfl⟩
abbrev main_call2_v3 : Ref sig .tc := ⟨.hbm, 36, rfl⟩
abbrev main_call2_cst_0 : Ref sig .tc := ⟨.hbm, 37, rfl⟩
abbrev main_call2_v4 : Ref sig .tc := ⟨.hbm, 38, rfl⟩
abbrev main_call2_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_call5_v0 : Ref sig .tc := ⟨.hbm, 101, rfl⟩
abbrev main_call5_v1 : Ref sig .tc := ⟨.hbm, 102, rfl⟩
abbrev main_call5_cst : Ref sig .tc := ⟨.hbm, 103, rfl⟩
abbrev main_call5_v2 : Ref sig .tc := ⟨.hbm, 104, rfl⟩
abbrev main_call5_v3 : Ref sig .tc := ⟨.hbm, 105, rfl⟩
abbrev main_call5_cst_0 : Ref sig .tc := ⟨.hbm, 106, rfl⟩
abbrev main_call5_v4 : Ref sig .tc := ⟨.hbm, 107, rfl⟩
abbrev main_call5_v5 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_call6_v0 : Ref sig .tc := ⟨.hbm, 124, rfl⟩
abbrev main_call6_v1 : Ref sig .tc := ⟨.hbm, 125, rfl⟩
abbrev main_call6_cst : Ref sig .tc := ⟨.hbm, 126, rfl⟩
abbrev main_call6_v2 : Ref sig .tc := ⟨.hbm, 127, rfl⟩
abbrev main_call6_v3 : Ref sig .tc := ⟨.hbm, 128, rfl⟩
abbrev main_call6_cst_0 : Ref sig .tc := ⟨.hbm, 129, rfl⟩
abbrev main_call6_v4 : Ref sig .tc := ⟨.hbm, 130, rfl⟩
abbrev main_call6_v5 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_call7_v0 : Ref sig .tc := ⟨.hbm, 147, rfl⟩
abbrev main_call7_v1 : Ref sig .tc := ⟨.hbm, 148, rfl⟩
abbrev main_call7_cst : Ref sig .tc := ⟨.hbm, 149, rfl⟩
abbrev main_call7_v2 : Ref sig .tc := ⟨.hbm, 150, rfl⟩
abbrev main_call7_v3 : Ref sig .tc := ⟨.hbm, 151, rfl⟩
abbrev main_call7_cst_0 : Ref sig .tc := ⟨.hbm, 152, rfl⟩
abbrev main_call7_v4 : Ref sig .tc := ⟨.hbm, 153, rfl⟩
abbrev main_call7_v5 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_call8_v0 : Ref sig .tc := ⟨.hbm, 170, rfl⟩
abbrev main_call8_v1 : Ref sig .tc := ⟨.hbm, 171, rfl⟩
abbrev main_call8_cst : Ref sig .tc := ⟨.hbm, 172, rfl⟩
abbrev main_call8_v2 : Ref sig .tc := ⟨.hbm, 173, rfl⟩
abbrev main_call8_v3 : Ref sig .tc := ⟨.hbm, 174, rfl⟩
abbrev main_call8_cst_0 : Ref sig .tc := ⟨.hbm, 175, rfl⟩
abbrev main_call8_v4 : Ref sig .tc := ⟨.hbm, 176, rfl⟩
abbrev main_call8_v5 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_call9_v0 : Ref sig .tc := ⟨.hbm, 193, rfl⟩
abbrev main_call9_v1 : Ref sig .tc := ⟨.hbm, 194, rfl⟩
abbrev main_call9_cst : Ref sig .tc := ⟨.hbm, 195, rfl⟩
abbrev main_call9_v2 : Ref sig .tc := ⟨.hbm, 196, rfl⟩
abbrev main_call9_v3 : Ref sig .tc := ⟨.hbm, 197, rfl⟩
abbrev main_call9_cst_0 : Ref sig .tc := ⟨.hbm, 198, rfl⟩
abbrev main_call9_v4 : Ref sig .tc := ⟨.hbm, 199, rfl⟩
abbrev main_call9_v5 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩

abbrev nD : Nat := 1
abbrev τ : Topo := Topo.v7x

variable {F : FTy → Type} [FloatOps F]
-- ==== Kernel2.lean ====
abbrev S17408x2048 : Shape := ⟨2, ![17408, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 11
  | .vmem => 10
  | .smem => 0
  | _ => 0

abbrev bufTy : (tb : Table) → Fin (tcTables nBuf tb) → BufTy
  | .hbm, ⟨0, _⟩ => ⟨S17408x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S2048x5632, .f32⟩
  | .hbm, ⟨5, _⟩ => ⟨S2048x5632, .bf16⟩
  | .hbm, ⟨6, _⟩ => ⟨S2048x5632, .f32⟩
  | .hbm, ⟨7, _⟩ => ⟨S2048x5632, .bf16⟩
  | .hbm, ⟨8, _⟩ => ⟨S5632x2048, .f32⟩
  | .hbm, ⟨9, _⟩ => ⟨S5632x2048, .bf16⟩
  | .hbm, ⟨10, _⟩ => ⟨S17408x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .f32⟩
  | .local _ .vmem, ⟨9, _⟩ => ⟨S1024x2048, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S17408x2048 : Shape := ⟨2, ![17408, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S17408x5632 : Shape := ⟨2, ![17408, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S17408x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S17408x5632, .f32⟩
  | .hbm, ⟨9, _⟩ => ⟨S17408x5632, .f32⟩
  | .hbm, ⟨10, _⟩ => ⟨S17408x5632, .f32⟩
  | .hbm, ⟨11, _⟩ => ⟨S_, .f32⟩
  | .hbm, ⟨12, _⟩ => ⟨S17408x5632, .f32⟩
  | .hbm, ⟨13, _⟩ => ⟨S17408x5632, .f32⟩
  | .hbm, ⟨14, _⟩ => ⟨S_, .f32⟩
  | .hbm, ⟨15, _⟩ => ⟨S17408x5632, .f32⟩
  | .hbm, ⟨16, _⟩ => ⟨S17408x5632, .f32⟩
  | .hbm, ⟨17, _⟩ => ⟨S17408x5632, .f32⟩
  | .hbm, ⟨18, _⟩ => ⟨S17408x5632, .f32⟩
  | .hbm, ⟨19, _⟩ => ⟨S17408x5632, .f32⟩
  | .hbm, ⟨20, _⟩ => ⟨S17408x2048, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel3.lean ====
abbrev S8x2048x2048 : Shape := ⟨3, ![8, 2048, 2048]⟩
abbrev S128x8x2048 : Shape := ⟨3, ![128, 8, 2048]⟩
abbrev S1x2048x6400 : Shape := ⟨3, ![1, 2048, 6400]⟩
abbrev S16384x2048 : Shape := ⟨2, ![16384, 2048]⟩
abbrev S1024x2048 : Shape := ⟨2, ![1024, 2048]⟩
abbrev S17408x2048 : Shape := ⟨2, ![17408, 2048]⟩
abbrev S2048x6400 : Shape := ⟨2, ![2048, 6400]⟩
abbrev S17408x6400 : Shape := ⟨2, ![17408, 6400]⟩
abbrev S2048x1280 : Shape := ⟨2, ![2048, 1280]⟩
abbrev S1024x1280 : Shape := ⟨2, ![1024, 1280]⟩

abbrev nBuf : Space → Nat
  | .hbm => 10
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S128x8x2048, .f32⟩
  | .hbm, ⟨2, _⟩ => ⟨S1x2048x6400, .f32⟩
  | .hbm, ⟨3, _⟩ => ⟨S16384x2048, .f32⟩
  | .hbm, ⟨4, _⟩ => ⟨S1024x2048, .f32⟩
  | .hbm, ⟨5, _⟩ => ⟨S17408x2048, .f32⟩
  | .hbm, ⟨6, _⟩ => ⟨S17408x2048, .bf16⟩
  | .hbm, ⟨7, _⟩ => ⟨S2048x6400, .f32⟩
  | .hbm, ⟨8, _⟩ => ⟨S2048x6400, .bf16⟩
  | .hbm, ⟨9, _⟩ => ⟨S17408x6400, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8x2048x2048 : Shape := ⟨3, ![8, 2048, 2048]⟩
abbrev S128x8x2048 : Shape := ⟨3, ![128, 8, 2048]⟩
abbrev S1x2048x6400 : Shape := ⟨3, ![1, 2048, 6400]⟩
abbrev S2048x6400 : Shape := ⟨2, ![2048, 6400]⟩
abbrev S8x2048x6400 : Shape := ⟨3, ![8, 2048, 6400]⟩
abbrev S16384x6400 : Shape := ⟨2, ![16384, 6400]⟩
abbrev S128x8x6400 : Shape := ⟨3, ![128, 8, 6400]⟩
abbrev S1024x6400 : Shape := ⟨2, ![1024, 6400]⟩
abbrev S17408x6400 : Shape := ⟨2, ![17408, 6400]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S128x8x2048, .f32⟩
  | .hbm, ⟨2, _⟩ => ⟨S1x2048x6400, .f32⟩
  | .hbm, ⟨3, _⟩ => ⟨S2048x6400, .f32⟩
  | .hbm, ⟨4, _⟩ => ⟨S8x2048x6400, .f32⟩
  | .hbm, ⟨5, _⟩ => ⟨S16384x6400, .f32⟩
  | .hbm, ⟨6, _⟩ => ⟨S2048x6400, .f32⟩
  | .hbm, ⟨7, _⟩ => ⟨S128x8x6400, .f32⟩
  | .hbm, ⟨8, _⟩ => ⟨S1024x6400, .f32⟩
  | .hbm, ⟨9, _⟩ => ⟨S17408x6400, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S17408x2048 : Shape := ⟨2, ![17408, 2048]⟩
abbrev S1x2048x6144 : Shape := ⟨3, ![1, 2048, 6144]⟩
abbrev S2048x6144 : Shape := ⟨2, ![2048, 6144]⟩
abbrev S17408x6144 : Shape := ⟨2, ![17408, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S1x2048x6144, .f32⟩
  | .hbm, ⟨2, _⟩ => ⟨S2048x6144, .f32⟩
  | .hbm, ⟨3, _⟩ => ⟨S2048x6144, .bf16⟩
  | .hbm, ⟨4, _⟩ => ⟨S17408x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S17408x2048 : Shape := ⟨2, ![17408, 2048]⟩
abbrev S1x2048x6144 : Shape := ⟨3, ![1, 2048, 6144]⟩
abbrev S2048x6144 : Shape := ⟨2, ![2048, 6144]⟩
abbrev S17408x6144 : Shape := ⟨2, ![17408, 6144]⟩

abbrev nBuf : Space → Nat
  | .hbm => 5
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S1x2048x6144, .f32⟩
  | .hbm, ⟨2, _⟩ => ⟨S17408x2048, .f32⟩
  | .hbm, ⟨3, _⟩ => ⟨S2048x6144, .f32⟩
  | .hbm, ⟨4, _⟩ => ⟨S17408x6144, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S17408x2048 : Shape := ⟨2, ![17408, 2048]⟩
abbrev S2x8x2048x256 : Shape := ⟨4, ![2, 8, 2048, 256]⟩
abbrev S2x128x8x256 : Shape := ⟨4, ![2, 128, 8, 256]⟩
abbrev S2x2048x2048 : Shape := ⟨3, ![2, 2048, 2048]⟩
abbrev S2x256x2048 : Shape := ⟨3, ![2, 256, 2048]⟩
abbrev S1x8x2048x256 : Shape := ⟨4, ![1, 8, 2048, 256]⟩
abbrev S8x2048x256 : Shape := ⟨3, ![8, 2048, 256]⟩
abbrev S16384x256 : Shape := ⟨2, ![16384, 256]⟩
abbrev S1x128x8x256 : Shape := ⟨4, ![1, 128, 8, 256]⟩
abbrev S128x8x256 : Shape := ⟨3, ![128, 8, 256]⟩
abbrev S1024x256 : Shape := ⟨2, ![1024, 256]⟩
abbrev S17408x256 : Shape := ⟨2, ![17408, 256]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩
abbrev S1024x2048 : Shape := ⟨2, ![1024, 2048]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 20
  | .vmem => 10
  | .smem => 0
  | _ => 0

abbrev bufTy : (tb : Table) → Fin (tcTables nBuf tb) → BufTy
  | .hbm, ⟨0, _⟩ => ⟨S17408x2048, .bf16⟩
  | .hbm, ⟨1, _⟩ => ⟨S2x8x2048x256, .f32⟩
  | .hbm, ⟨2, _⟩ => ⟨S2x128x8x256, .f32⟩
  | .hbm, ⟨3, _⟩ => ⟨S2x2048x2048, .f32⟩
  | .hbm, ⟨4, _⟩ => ⟨S2x256x2048, .f32⟩
  | .hbm, ⟨5, _⟩ => ⟨S1x8x2048x256, .f32⟩
  | .hbm, ⟨6, _⟩ => ⟨S8x2048x256, .f32⟩
  | .hbm, ⟨7, _⟩ => ⟨S16384x256, .f32⟩
  | .hbm, ⟨8, _⟩ => ⟨S1x128x8x256, .f32⟩
  | .hbm, ⟨9, _⟩ => ⟨S128x8x256, .f32⟩
  | .hbm, ⟨10, _⟩ => ⟨S1024x256, .f32⟩
  | .hbm, ⟨11, _⟩ => ⟨S17408x256, .f32⟩
  | .hbm, ⟨12, _⟩ => ⟨S1x2048x2048, .f32⟩
  | .hbm, ⟨13, _⟩ => ⟨S2048x2048, .f32⟩
  | .hbm, ⟨14, _⟩ => ⟨S2048x2048, .bf16⟩
  | .hbm, ⟨15, _⟩ => ⟨S17408x256, .bf16⟩
  | .hbm, ⟨16, _⟩ => ⟨S1x256x2048, .f32⟩
  | .hbm, ⟨17, _⟩ => ⟨S256x2048, .f32⟩
  | .hbm, ⟨18, _⟩ => ⟨S256x2048, .bf16⟩
  | .hbm, ⟨19, _⟩ => ⟨S17408x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .f32⟩
  | .local _ .vmem, ⟨9, _⟩ => ⟨S1024x1024, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S17408x2048 : Shape := ⟨2, ![17408, 2048]⟩
abbrev S2x8x2048x256 : Shape := ⟨4, ![2, 8, 2048, 256]⟩
abbrev S2x128x8x256 : Shape := ⟨4, ![2, 128, 8, 256]⟩
abbrev S2x2048x2048 : Shape := ⟨3, ![2, 2048, 2048]⟩
abbrev S2x256x2048 : Shape := ⟨3, ![2, 256, 2048]⟩
abbrev S1x8x2048x256 : Shape := ⟨4, ![1, 8, 2048, 256]⟩
abbrev S8x2048x256 : Shape := ⟨3, ![8, 2048, 256]⟩
abbrev S1x256x2048 : Shape := ⟨3, ![1, 256, 2048]⟩
abbrev S256x2048 : Shape := ⟨2, ![256, 2048]⟩
abbrev S8x2048x2048 : Shape := ⟨3, ![8, 2048, 2048]⟩
abbrev S16384x2048 : Shape := ⟨2, ![16384, 2048]⟩
abbrev S1x128x8x256 : Shape := ⟨4, ![1, 128, 8, 256]⟩
abbrev S128x8x256 : Shape := ⟨3, ![128, 8, 256]⟩
abbrev S128x8x2048 : Shape := ⟨3, ![128, 8, 2048]⟩
abbrev S1024x2048 : Shape := ⟨2, ![1024, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2x8x2048x256, .f32⟩
  | .hbm, ⟨2, _⟩ => ⟨S2x128x8x256, .f32⟩
  | .hbm, ⟨3, _⟩ => ⟨S2x2048x2048, .f32⟩
  | .hbm, ⟨4, _⟩ => ⟨S2x256x2048, .f32⟩
  | .hbm, ⟨5, _⟩ => ⟨S1x8x2048x256, .f32⟩
  | .hbm, ⟨6, _⟩ => ⟨S8x2048x256, .f32⟩
  | .hbm, ⟨7, _⟩ => ⟨S1x256x2048, .f32⟩
  | .hbm, ⟨8, _⟩ => ⟨S256x2048, .f32⟩
  | .hbm, ⟨9, _⟩ => ⟨S8x2048x2048, .f32⟩
  | .hbm, ⟨10, _⟩ => ⟨S16384x2048, .f32⟩
  | .hbm, ⟨11, _⟩ => ⟨S1x128x8x256, .f32⟩
  | .hbm, ⟨12, _⟩ => ⟨S128x8x256, .f32⟩
  | .hbm, ⟨13, _⟩ => ⟨S1x256x2048, .f32⟩
  | .hbm, ⟨14, _⟩ => ⟨S256x2048, .f32⟩
  | .hbm, ⟨15, _⟩ => ⟨S128x8x2048, .f32⟩
  | .hbm, ⟨16, _⟩ => ⟨S1024x2048, .f32⟩
  | .hbm, ⟨17, _⟩ => ⟨S17408x2048, .f32⟩
  | .hbm, ⟨18, _⟩ => ⟨S1x2048x2048, .f32⟩
  | .hbm, ⟨19, _⟩ => ⟨S2048x2048, .f32⟩
  | .hbm, ⟨20, _⟩ => ⟨S17408x2048, .f32⟩
  | .hbm, ⟨21, _⟩ => ⟨S17408x2048, .f32⟩
  | .hbm, ⟨22, _⟩ => ⟨S17408x2048, .f32⟩
  | .hbm, ⟨23, _⟩ => ⟨S_, .f32⟩
  | .hbm, ⟨24, _⟩ => ⟨S17408x2048, .f32⟩
  | .hbm, ⟨25, _⟩ => ⟨S17408x2048, .f32⟩
  | .hbm, ⟨26, _⟩ => ⟨S_, .f32⟩
  | .hbm, ⟨27, _⟩ => ⟨S17408x2048, .f32⟩
  | .hbm, ⟨28, _⟩ => ⟨S17408x2048, .f32⟩
  | .hbm, ⟨29, _⟩ => ⟨S17408x2048, .f32⟩
  | .hbm, ⟨30, _⟩ => ⟨S17408x2048, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel6.lean ====
abbrev S17408x2048 : Shape := ⟨2, ![17408, 2048]⟩
abbrev S1x2048x2048 : Shape := ⟨3, ![1, 2048, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S17408x2048, .bf16⟩
  | .hbm, ⟨1, _⟩ => ⟨S1x2048x2048, .f32⟩
  | .hbm, ⟨2, _⟩ => ⟨S17408x2048, .f32⟩
  | .hbm, ⟨3, _⟩ => ⟨S2x2048, .f32⟩
  | .hbm, ⟨4, _⟩ => ⟨S2x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S17408x2048, .f32⟩
  | .hbm, ⟨14, _⟩ => ⟨S17408x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S17408x2048 : Shape := ⟨2, ![17408, 2048]⟩
abbrev S1x2048x2048 : Shape := ⟨3, ![1, 2048, 2048]⟩
abbrev S2x2048 : Shape := ⟨2, ![2, 2048]⟩
abbrev S_ : Shape := ⟨0, ![]⟩
abbrev S2048x2048 : Shape := ⟨2, ![2048, 2048]⟩
abbrev S1x2048 : Shape := ⟨2, ![1, 2048]⟩
abbrev S2048 : Shape := ⟨1, ![2048]⟩
abbrev S17408 : Shape := ⟨1, ![17408]⟩
abbrev S17408x1 : Shape := ⟨2, ![17408, 1]⟩

abbrev nBuf : Space → Nat
  | .hbm => 46
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S1x2048x2048, .f32⟩
  | .hbm, ⟨2, _⟩ => ⟨S17408x2048, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S17408x2048, .f32⟩
  | .hbm, ⟨7, _⟩ => ⟨S17408x2048, .f32⟩
  | .hbm, ⟨8, _⟩ => ⟨S17408x2048, .f32⟩
  | .hbm, ⟨9, _⟩ => ⟨S2048x2048, .f32⟩
  | .hbm, ⟨10, _⟩ => ⟨S17408x2048, .f32⟩
  | .hbm, ⟨11, _⟩ => ⟨S17408x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S_, .f32⟩
  | .hbm, ⟨17, _⟩ => ⟨S17408, .f32⟩
  | .hbm, ⟨18, _⟩ => ⟨S17408x1, .f32⟩
  | .hbm, ⟨19, _⟩ => ⟨S_, .f32⟩
  | .hbm, ⟨20, _⟩ => ⟨S17408x1, .f32⟩
  | .hbm, ⟨21, _⟩ => ⟨S17408x1, .f32⟩
  | .hbm, ⟨22, _⟩ => ⟨S17408x2048, .f32⟩
  | .hbm, ⟨23, _⟩ => ⟨S17408x2048, .f32⟩
  | .hbm, ⟨24, _⟩ => ⟨S17408x2048, .f32⟩
  | .hbm, ⟨25, _⟩ => ⟨S_, .f32⟩
  | .hbm, ⟨26, _⟩ => ⟨S17408, .f32⟩
  | .hbm, ⟨27, _⟩ => ⟨S17408x1, .f32⟩
  | .hbm, ⟨28, _⟩ => ⟨S_, .f32⟩
  | .hbm, ⟨29, _⟩ => ⟨S17408x1, .f32⟩
  | .hbm, ⟨30, _⟩ => ⟨S17408x1, .f32⟩
  | .hbm, ⟨31, _⟩ => ⟨S17408x2048, .f32⟩
  | .hbm, ⟨32, _⟩ => ⟨S17408x2048, .f32⟩
  | .hbm, ⟨33, _⟩ => ⟨S_, .f32⟩
  | .hbm, ⟨34, _⟩ => ⟨S17408x1, .f32⟩
  | .hbm, ⟨35, _⟩ => ⟨S17408x1, .f32⟩
  | .hbm, ⟨36, _⟩ => ⟨S17408x1, .f32⟩
  | .hbm, ⟨37, _⟩ => ⟨S17408x2048, .f32⟩
  | .hbm, ⟨38, _⟩ => ⟨S17408x2048, .f32⟩
  | .hbm, ⟨39, _⟩ => ⟨S1x2048, .f32⟩
  | .hbm, ⟨40, _⟩ => ⟨S17408x2048, .f32⟩
  | .hbm, ⟨41, _⟩ => ⟨S17408x2048, .f32⟩
  | .hbm, ⟨42, _⟩ => ⟨S1x2048, .f32⟩
  | .hbm, ⟨43, _⟩ => ⟨S17408x2048, .f32⟩
  | .hbm, ⟨44, _⟩ => ⟨S17408x2048, .f32⟩
  | .hbm, ⟨45, _⟩ => ⟨S17408x2048, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel7.lean ====
abbrev S17408x2048 : Shape := ⟨2, ![17408, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S17408x2048, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S17408x2048, .f32⟩
  | .hbm, ⟨12, _⟩ => ⟨S17408x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S17408x2048 : Shape := ⟨2, ![17408, 2048]⟩
abbrev S2x2048 : Shape := ⟨2, ![2, 2048]⟩
abbrev S_ : Shape := ⟨0, ![]⟩
abbrev S1x2048 : Shape := ⟨2, ![1, 2048]⟩
abbrev S2048 : Shape := ⟨1, ![2048]⟩
abbrev S17408 : Shape := ⟨1, ![17408]⟩
abbrev S17408x1 : Shape := ⟨2, ![17408, 1]⟩

abbrev nBuf : Space → Nat
  | .hbm => 44
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S17408x2048, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S17408x2048, .f32⟩
  | .hbm, ⟨7, _⟩ => ⟨S17408x2048, .f32⟩
  | .hbm, ⟨8, _⟩ => ⟨S17408x2048, .f32⟩
  | .hbm, ⟨9, _⟩ => ⟨S17408x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S_, .f32⟩
  | .hbm, ⟨15, _⟩ => ⟨S17408, .f32⟩
  | .hbm, ⟨16, _⟩ => ⟨S17408x1, .f32⟩
  | .hbm, ⟨17, _⟩ => ⟨S_, .f32⟩
  | .hbm, ⟨18, _⟩ => ⟨S17408x1, .f32⟩
  | .hbm, ⟨19, _⟩ => ⟨S17408x1, .f32⟩
  | .hbm, ⟨20, _⟩ => ⟨S17408x2048, .f32⟩
  | .hbm, ⟨21, _⟩ => ⟨S17408x2048, .f32⟩
  | .hbm, ⟨22, _⟩ => ⟨S17408x2048, .f32⟩
  | .hbm, ⟨23, _⟩ => ⟨S_, .f32⟩
  | .hbm, ⟨24, _⟩ => ⟨S17408, .f32⟩
  | .hbm, ⟨25, _⟩ => ⟨S17408x1, .f32⟩
  | .hbm, ⟨26, _⟩ => ⟨S_, .f32⟩
  | .hbm, ⟨27, _⟩ => ⟨S17408x1, .f32⟩
  | .hbm, ⟨28, _⟩ => ⟨S17408x1, .f32⟩
  | .hbm, ⟨29, _⟩ => ⟨S17408x2048, .f32⟩
  | .hbm, ⟨30, _⟩ => ⟨S17408x2048, .f32⟩
  | .hbm, ⟨31, _⟩ => ⟨S_, .f32⟩
  | .hbm, ⟨32, _⟩ => ⟨S17408x1, .f32⟩
  | .hbm, ⟨33, _⟩ => ⟨S17408x1, .f32⟩
  | .hbm, ⟨34, _⟩ => ⟨S17408x1, .f32⟩
  | .hbm, ⟨35, _⟩ => ⟨S17408x2048, .f32⟩
  | .hbm, ⟨36, _⟩ => ⟨S17408x2048, .f32⟩
  | .hbm, ⟨37, _⟩ => ⟨S1x2048, .f32⟩
  | .hbm, ⟨38, _⟩ => ⟨S17408x2048, .f32⟩
  | .hbm, ⟨39, _⟩ => ⟨S17408x2048, .f32⟩
  | .hbm, ⟨40, _⟩ => ⟨S1x2048, .f32⟩
  | .hbm, ⟨41, _⟩ => ⟨S17408x2048, .f32⟩
  | .hbm, ⟨42, _⟩ => ⟨S17408x2048, .f32⟩
  | .hbm, ⟨43, _⟩ => ⟨S17408x2048, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel8.lean ====
abbrev S17408x6144 : Shape := ⟨2, ![17408, 6144]⟩
abbrev S16x16x128x128 : Shape := ⟨4, ![16, 16, 128, 128]⟩
abbrev S1x64 : Shape := ⟨2, ![1, 64]⟩
abbrev S1x128 : Shape := ⟨2, ![1, 128]⟩
abbrev S17408x2048 : Shape := ⟨2, ![17408, 2048]⟩
abbrev S64 : Shape := ⟨1, ![64]⟩
abbrev S128 : Shape := ⟨1, ![128]⟩
abbrev S16384x2048 : Shape := ⟨2, ![16384, 2048]⟩
abbrev S256x128 : Shape := ⟨2, ![256, 128]⟩
abbrev S2048x128 : Shape := ⟨2, ![2048, 128]⟩
abbrev S1x16x128x128 : Shape := ⟨4, ![1, 16, 128, 128]⟩
abbrev S1x1x128x128 : Shape := ⟨4, ![1, 1, 128, 128]⟩
abbrev S128x128 : Shape := ⟨2, ![128, 128]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S512x128 : Shape := ⟨2, ![512, 128]⟩
abbrev S128x512 : Shape := ⟨2, ![128, 512]⟩
abbrev S256x512 : Shape := ⟨2, ![256, 512]⟩
abbrev S768x128 : Shape := ⟨2, ![768, 128]⟩
abbrev S128x768 : Shape := ⟨2, ![128, 768]⟩
abbrev S256x768 : Shape := ⟨2, ![256, 768]⟩
abbrev S1024x128 : Shape := ⟨2, ![1024, 128]⟩
abbrev S128x1024 : Shape := ⟨2, ![128, 1024]⟩
abbrev S256x1024 : Shape := ⟨2, ![256, 1024]⟩
abbrev S1280x128 : Shape := ⟨2, ![1280, 128]⟩
abbrev S128x1280 : Shape := ⟨2, ![128, 1280]⟩
abbrev S256x1280 : Shape := ⟨2, ![256, 1280]⟩
abbrev S1536x128 : Shape := ⟨2, ![1536, 128]⟩
abbrev S128x1536 : Shape := ⟨2, ![128, 1536]⟩
abbrev S256x1536 : Shape := ⟨2, ![256, 1536]⟩
abbrev S1792x128 : Shape := ⟨2, ![1792, 128]⟩
abbrev S128x1792 : Shape := ⟨2, ![128, 1792]⟩
abbrev S256x1792 : Shape := ⟨2, ![256, 1792]⟩
abbrev S128x2048 : Shape := ⟨2, ![128, 2048]⟩
abbrev S256x2048 : Shape := ⟨2, ![256, 2048]⟩

abbrev nBuf : Space → Nat
  | .hbm => 21
  | .vmem => 15
  | .smem => 0
  | _ => 0

abbrev bufTy : (tb : Table) → Fin (tcTables nBuf tb) → BufTy
  | .hbm, ⟨0, _⟩ => ⟨S17408x6144, .f32⟩
  | .hbm, ⟨1, _⟩ => ⟨S16x16x128x128, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S17408x2048, .f32⟩
  | .hbm, ⟨8, _⟩ => ⟨S17408x2048, .f32⟩
  | .hbm, ⟨9, _⟩ => ⟨S17408x2048, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S128, .f32⟩
  | .hbm, ⟨19, _⟩ => ⟨S1x128, .f32⟩
  | .hbm, ⟨20, _⟩ => ⟨S16384x2048, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x16x128x128, .f32⟩
  | .local _ .vmem, ⟨7, _⟩ => ⟨S1x16x128x128, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S256x128, .bf16⟩
  | .local _ .vmem, ⟨14, _⟩ => ⟨S256x128, .bf16⟩
  | _, _ => ⟨S17408x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![8, 16, 8], ![false, false, false]⟩

def k0_cond1 (i : grid0.Coords) : BitVec 1 :=
  let arg2 : BitVec 32 := BitVec.ofNat 32 (i 2).val
  let c0_i32_18 : BitVec 32 := 0#32
  let v70 : BitVec 1 := Scalar.cmpi .sgt arg2 c0_i32_18
  let v71 : BitVec 32 := Scalar.extui v70
  let c0_i32_19 : BitVec 32 := 0#32
  let v72 : BitVec 1 := Scalar.cmpi .slt arg2 c0_i32_19
  let v73 : BitVec 32 := Scalar.extui v72
  let v74 : BitVec 32 := Scalar.subi v71 v73
  let c1_i32_17 : BitVec 32 := 1#32
  let c0_i32_20 : BitVec 32 := 0#32
  let v75 : BitVec 1 := Scalar.cmpi .sgt c1_i32_17 c0_i32_20
  let v76 : BitVec 32 := Scalar.extui v75
  let c0_i32_21 : BitVec 32 := 0#32
  let v77 : BitVec 1 := Scalar.cmpi .slt c1_i32_17 c0_i32_21
  let v78 : BitVec 32 := Scalar.extui v77
  let v79 : BitVec 32 := Scalar.subi v76 v78
  let v80 : BitVec 1 := Scalar.cmpi .ne v74 v79
  let v81 : BitVec 32 := Scalar.remsi arg2 c1_i32_17
  let c0_i32_22 : BitVec 32 := 0#32
  let v82 : BitVec 1 := Scalar.cmpi .ne v81 c0_i32_22
  let v83 : BitVec 1 := Scalar.andi v80 v82
  let v69 : BitVec 32 := Scalar.divsi arg2 c1_i32_17
  let c1_i32_23 : BitVec 32 := 1#32
  let v84 : BitVec 32 := Scalar.subi v69 c1_i32_23
  let v85 : BitVec 32 := Scalar.select v83 v84 v69
  let c0_i32_24 : BitVec 32 := 0#32
  let v86 : BitVec 1 := Scalar.cmpi .eq v85 c0_i32_24
  let v87 : BitVec 32 := Scalar.extui v86
  let c0_i32_25 : BitVec 32 := 0#32
  let v88 : BitVec 1 := Scalar.cmpi .ne v87 c0_i32_25
  v88

def k0_off1 (i : grid0.Coords) (c0_i32_88 : BitVec 32) (c0_i32_89 : BitVec 32) : Fin 4 → Nat :=
  let c0_92 : Index := 0#32
  let arg2 : BitVec 32 := BitVec.ofNat 32 (i 2).val
  let c2_i32_87 : BitVec 32 := 2#32
  let v235 : BitVec 32 := Scalar.muli arg2 c2_i32_87
  let v236 : BitVec 32 := Scalar.addi v235 c0_i32_88
  let v237 : BitVec 32 := Scalar.subi v236 c0_i32_89
  let c0_i32_91 : BitVec 32 := 0#32
  let v239 : BitVec 32 := Scalar.maxsi v237 c0_i32_91
  let v240 : Index := Scalar.indexCast v239
  let c0_93 : Index := 0#32
  let c0_94 : Index := 0#32
  ![0, v240.toNat, 0, 0]
def k0_cond2 (i : grid0.Coords) : BitVec 1 :=
  let arg2 : BitVec 32 := BitVec.ofNat 32 (i 2).val
  let c0_i32_27 : BitVec 32 := 0#32
  let v90 : BitVec 1 := Scalar.cmpi .sgt arg2 c0_i32_27
  let v91 : BitVec 32 := Scalar.extui v90
  let c0_i32_28 : BitVec 32 := 0#32
  let v92 : BitVec 1 := Scalar.cmpi .slt arg2 c0_i32_28
  let v93 : BitVec 32 := Scalar.extui v92
  let v94 : BitVec 32 := Scalar.subi v91 v93
  let c1_i32_26 : BitVec 32 := 1#32
  let c0_i32_29 : BitVec 32 := 0#32
  let v95 : BitVec 1 := Scalar.cmpi .sgt c1_i32_26 c0_i32_29
  let v96 : BitVec 32 := Scalar.extui v95
  let c0_i32_30 : BitVec 32 := 0#32
  let v97 : BitVec 1 := Scalar.cmpi .slt c1_i32_26 c0_i32_30
  let v98 : BitVec 32 := Scalar.extui v97
  let v99 : BitVec 32 := Scalar.subi v96 v98
  let v100 : BitVec 1 := Scalar.cmpi .ne v94 v99
  let v101 : BitVec 32 := Scalar.remsi arg2 c1_i32_26
  let c0_i32_31 : BitVec 32 := 0#32
  let v102 : BitVec 1 := Scalar.cmpi .ne v101 c0_i32_31
  let v103 : BitVec 1 := Scalar.andi v100 v102
  let v89 : BitVec 32 := Scalar.divsi arg2 c1_i32_26
  let c1_i32_32 : BitVec 32 := 1#32
  let v104 : BitVec 32 := Scalar.subi v89 c1_i32_32
  let v105 : BitVec 32 := Scalar.select v103 v104 v89
  let c1_i32_33 : BitVec 32 := 1#32
  let v106 : BitVec 1 := Scalar.cmpi .eq v105 c1_i32_33
  let v107 : BitVec 32 := Scalar.extui v106
  let c0_i32_34 : BitVec 32 := 0#32
  let v108 : BitVec 1 := Scalar.cmpi .ne v107 c0_i32_34
  v108

def k0_off2 (i : grid0.Coords) (c0_i32_88 : BitVec 32) (c0_i32_89 : BitVec 32) : Fin 4 → Nat :=
  let c0_92 : Index := 0#32
  let arg2 : BitVec 32 := BitVec.ofNat 32 (i 2).val
  let c2_i32_87 : BitVec 32 := 2#32
  let v235 : BitVec 32 := Scalar.muli arg2 c2_i32_87
  let v236 : BitVec 32 := Scalar.addi v235 c0_i32_88
  let v237 : BitVec 32 := Scalar.subi v236 c0_i32_89
  let c0_i32_91 : BitVec 32 := 0#32
  let v239 : BitVec 32 := Scalar.maxsi v237 c0_i32_91
  let v240 : Index := Scalar.indexCast v239
  let c0_93 : Index := 0#32
  let c0_94 : Index := 0#32
  ![0, v240.toNat, 0, 0]
def k0_cond3 (i : grid0.Coords) : BitVec 1 :=
  let arg2 : BitVec 32 := BitVec.ofNat 32 (i 2).val
  let c0_i32_36 : BitVec 32 := 0#32
  let v110 : BitVec 1 := Scalar.cmpi .sgt arg2 c0_i32_36
  let v111 : BitVec 32 := Scalar.extui v110
  let c0_i32_37 : BitVec 32 := 0#32
  let v112 : BitVec 1 := Scalar.cmpi .slt arg2 c0_i32_37
  let v113 : BitVec 32 := Scalar.extui v112
  let v114 : BitVec 32 := Scalar.subi v111 v113
  let c1_i32_35 : BitVec 32 := 1#32
  let c0_i32_38 : BitVec 32 := 0#32
  let v115 : BitVec 1 := Scalar.cmpi .sgt c1_i32_35 c0_i32_38
  let v116 : BitVec 32 := Scalar.extui v115
  let c0_i32_39 : BitVec 32 := 0#32
  let v117 : BitVec 1 := Scalar.cmpi .slt c1_i32_35 c0_i32_39
  let v118 : BitVec 32 := Scalar.extui v117
  let v119 : BitVec 32 := Scalar.subi v116 v118
  let v120 : BitVec 1 := Scalar.cmpi .ne v114 v119
  let v121 : BitVec 32 := Scalar.remsi arg2 c1_i32_35
  let c0_i32_40 : BitVec 32 := 0#32
  let v122 : BitVec 1 := Scalar.cmpi .ne v121 c0_i32_40
  let v123 : BitVec 1 := Scalar.andi v120 v122
  let v109 : BitVec 32 := Scalar.divsi arg2 c1_i32_35
  let c1_i32_41 : BitVec 32 := 1#32
  let v124 : BitVec 32 := Scalar.subi v109 c1_i32_41
  let v125 : BitVec 32 := Scalar.select v123 v124 v109
  let c2_i32 : BitVec 32 := 2#32
  let v126 : BitVec 1 := Scalar.cmpi .eq v125 c2_i32
  let v127 : BitVec 32 := Scalar.extui v126
  let c0_i32_42 : BitVec 32 := 0#32
  let v128 : BitVec 1 := Scalar.cmpi .ne v127 c0_i32_42
  v128

def k0_off3 (i : grid0.Coords) (c0_i32_88 : BitVec 32) (c0_i32_89 : BitVec 32) : Fin 4 → Nat :=
  let c0_92 : Index := 0#32
  let arg2 : BitVec 32 := BitVec.ofNat 32 (i 2).val
  let c2_i32_87 : BitVec 32 := 2#32
  let v235 : BitVec 32 := Scalar.muli arg2 c2_i32_87
  let v236 : BitVec 32 := Scalar.addi v235 c0_i32_88
  let v237 : BitVec 32 := Scalar.subi v236 c0_i32_89
  let c0_i32_91 : BitVec 32 := 0#32
  let v239 : BitVec 32 := Scalar.maxsi v237 c0_i32_91
  let v240 : Index := Scalar.indexCast v239
  let c0_93 : Index := 0#32
  let c0_94 : Index := 0#32
  ![0, v240.toNat, 0, 0]
def k0_cond4 (i : grid0.Coords) : BitVec 1 :=
  let arg2 : BitVec 32 := BitVec.ofNat 32 (i 2).val
  let c0_i32_44 : BitVec 32 := 0#32
  let v130 : BitVec 1 := Scalar.cmpi .sgt arg2 c0_i32_44
  let v131 : BitVec 32 := Scalar.extui v130
  let c0_i32_45 : BitVec 32 := 0#32
  let v132 : BitVec 1 := Scalar.cmpi .slt arg2 c0_i32_45
  let v133 : BitVec 32 := Scalar.extui v132
  let v134 : BitVec 32 := Scalar.subi v131 v133
  let c1_i32_43 : BitVec 32 := 1#32
  let c0_i32_46 : BitVec 32 := 0#32
  let v135 : BitVec 1 := Scalar.cmpi .sgt c1_i32_43 c0_i32_46
  let v136 : BitVec 32 := Scalar.extui v135
  let c0_i32_47 : BitVec 32 := 0#32
  let v137 : BitVec 1 := Scalar.cmpi .slt c1_i32_43 c0_i32_47
  let v138 : BitVec 32 := Scalar.extui v137
  let v139 : BitVec 32 := Scalar.subi v136 v138
  let v140 : BitVec 1 := Scalar.cmpi .ne v134 v139
  let v141 : BitVec 32 := Scalar.remsi arg2 c1_i32_43
  let c0_i32_48 : BitVec 32 := 0#32
  let v142 : BitVec 1 := Scalar.cmpi .ne v141 c0_i32_48
  let v143 : BitVec 1 := Scalar.andi v140 v142
  let v129 : BitVec 32 := Scalar.divsi arg2 c1_i32_43
  let c1_i32_49 : BitVec 32 := 1#32
  let v144 : BitVec 32 := Scalar.subi v129 c1_i32_49
  let v145 : BitVec 32 := Scalar.select v143 v144 v129
  let c3_i32 : BitVec 32 := 3#32
  let v146 : BitVec 1 := Scalar.cmpi .eq v145 c3_i32
  let v147 : BitVec 32 := Scalar.extui v146
  let c0_i32_50 : BitVec 32 := 0#32
  let v148 : BitVec 1 := Scalar.cmpi .ne v147 c0_i32_50
  v148

def k0_off4 (i : grid0.Coords) (c0_i32_88 : BitVec 32) (c0_i32_89 : BitVec 32) : Fin 4 → Nat :=
  let c0_92 : Index := 0#32
  let arg2 : BitVec 32 := BitVec.ofNat 32 (i 2).val
  let c2_i32_87 : BitVec 32 := 2#32
  let v235 : BitVec 32 := Scalar.muli arg2 c2_i32_87
  let v236 : BitVec 32 := Scalar.addi v235 c0_i32_88
  let v237 : BitVec 32 := Scalar.subi v236 c0_i32_89
  let c0_i32_91 : BitVec 32 := 0#32
  let v239 : BitVec 32 := Scalar.maxsi v237 c0_i32_91
  let v240 : Index := Scalar.indexCast v239
  let c0_93 : Index := 0#32
  let c0_94 : Index := 0#32
  ![0, v240.toNat, 0, 0]
def k0_cond5 (i : grid0.Coords) : BitVec 1 :=
  let arg2 : BitVec 32 := BitVec.ofNat 32 (i 2).val
  let c0_i32_52 : BitVec 32 := 0#32
  let v150 : BitVec 1 := Scalar.cmpi .sgt arg2 c0_i32_52
  let v151 : BitVec 32 := Scalar.extui v150
  let c0_i32_53 : BitVec 32 := 0#32
  let v152 : BitVec 1 := Scalar.cmpi .slt arg2 c0_i32_53
  let v153 : BitVec 32 := Scalar.extui v152
  let v154 : BitVec 32 := Scalar.subi v151 v153
  let c1_i32_51 : BitVec 32 := 1#32
  let c0_i32_54 : BitVec 32 := 0#32
  let v155 : BitVec 1 := Scalar.cmpi .sgt c1_i32_51 c0_i32_54
  let v156 : BitVec 32 := Scalar.extui v155
  let c0_i32_55 : BitVec 32 := 0#32
  let v157 : BitVec 1 := Scalar.cmpi .slt c1_i32_51 c0_i32_55
  let v158 : BitVec 32 := Scalar.extui v157
  let v159 : BitVec 32 := Scalar.subi v156 v158
  let v160 : BitVec 1 := Scalar.cmpi .ne v154 v159
  let v161 : BitVec 32 := Scalar.remsi arg2 c1_i32_51
  let c0_i32_56 : BitVec 32 := 0#32
  let v162 : BitVec 1 := Scalar.cmpi .ne v161 c0_i32_56
  let v163 : BitVec 1 := Scalar.andi v160 v162
  let v149 : BitVec 32 := Scalar.divsi arg2 c1_i32_51
  let c1_i32_57 : BitVec 32 := 1#32
  let v164 : BitVec 32 := Scalar.subi v149 c1_i32_57
  let v165 : BitVec 32 := Scalar.select v163 v164 v149
  let c4_i32 : BitVec 32 := 4#32
  let v166 : BitVec 1 := Scalar.cmpi .eq v165 c4_i32
  let v167 : BitVec 32 := Scalar.extui v166
  let c0_i32_58 : BitVec 32 := 0#32
  let v168 : BitVec 1 := Scalar.cmpi .ne v167 c0_i32_58
  v168

def k0_off5 (i : grid0.Coords) (c0_i32_88 : BitVec 32) (c0_i32_89 : BitVec 32) : Fin 4 → Nat :=
  let c0_92 : Index := 0#32
  let arg2 : BitVec 32 := BitVec.ofNat 32 (i 2).val
  let c2_i32_87 : BitVec 32 := 2#32
  let v235 : BitVec 32 := Scalar.muli arg2 c2_i32_87
  let v236 : BitVec 32 := Scalar.addi v235 c0_i32_88
  let v237 : BitVec 32 := Scalar.subi v236 c0_i32_89
  let c0_i32_91 : BitVec 32 := 0#32
  let v239 : BitVec 32 := Scalar.maxsi v237 c0_i32_91
  let v240 : Index := Scalar.indexCast v239
  let c0_93 : Index := 0#32
  let c0_94 : Index := 0#32
  ![0, v240.toNat, 0, 0]
def k0_cond6 (i : grid0.Coords) : BitVec 1 :=
  let arg2 : BitVec 32 := BitVec.ofNat 32 (i 2).val
  let c0_i32_60 : BitVec 32 := 0#32
  let v170 : BitVec 1 := Scalar.cmpi .sgt arg2 c0_i32_60
  let v171 : BitVec 32 := Scalar.extui v170
  let c0_i32_61 : BitVec 32 := 0#32
  let v172 : BitVec 1 := Scalar.cmpi .slt arg2 c0_i32_61
  let v173 : BitVec 32 := Scalar.extui v172
  let v174 : BitVec 32 := Scalar.subi v171 v173
  let c1_i32_59 : BitVec 32 := 1#32
  let c0_i32_62 : BitVec 32 := 0#32
  let v175 : BitVec 1 := Scalar.cmpi .sgt c1_i32_59 c0_i32_62
  let v176 : BitVec 32 := Scalar.extui v175
  let c0_i32_63 : BitVec 32 := 0#32
  let v177 : BitVec 1 := Scalar.cmpi .slt c1_i32_59 c0_i32_63
  let v178 : BitVec 32 := Scalar.extui v177
  let v179 : BitVec 32 := Scalar.subi v176 v178
  let v180 : BitVec 1 := Scalar.cmpi .ne v174 v179
  let v181 : BitVec 32 := Scalar.remsi arg2 c1_i32_59
  let c0_i32_64 : BitVec 32 := 0#32
  let v182 : BitVec 1 := Scalar.cmpi .ne v181 c0_i32_64
  let v183 : BitVec 1 := Scalar.andi v180 v182
  let v169 : BitVec 32 := Scalar.divsi arg2 c1_i32_59
  let c1_i32_65 : BitVec 32 := 1#32
  let v184 : BitVec 32 := Scalar.subi v169 c1_i32_65
  let v185 : BitVec 32 := Scalar.select v183 v184 v169
  let c5_i32 : BitVec 32 := 5#32
  let v186 : BitVec 1 := Scalar.cmpi .eq v185 c5_i32
  let v187 : BitVec 32 := Scalar.extui v186
  let c0_i32_66 : BitVec 32 := 0#32
  let v188 : BitVec 1 := Scalar.cmpi .ne v187 c0_i32_66
  v188

def k0_off6 (i : grid0.Coords) (c0_i32_88 : BitVec 32) (c0_i32_89 : BitVec 32) : Fin 4 → Nat :=
  let c0_92 : Index := 0#32
  let arg2 : BitVec 32 := BitVec.ofNat 32 (i 2).val
  let c2_i32_87 : BitVec 32 := 2#32
  let v235 : BitVec 32 := Scalar.muli arg2 c2_i32_87
  let v236 : BitVec 32 := Scalar.addi v235 c0_i32_88
  let v237 : BitVec 32 := Scalar.subi v236 c0_i32_89
  let c0_i32_91 : BitVec 32 := 0#32
  let v239 : BitVec 32 := Scalar.maxsi v237 c0_i32_91
  let v240 : Index := Scalar.indexCast v239
  let c0_93 : Index := 0#32
  let c0_94 : Index := 0#32
  ![0, v240.toNat, 0, 0]
def k0_cond7 (i : grid0.Coords) : BitVec 1 :=
  let arg2 : BitVec 32 := BitVec.ofNat 32 (i 2).val
  let c0_i32_68 : BitVec 32 := 0#32
  let v190 : BitVec 1 := Scalar.cmpi .sgt arg2 c0_i32_68
  let v191 : BitVec 32 := Scalar.extui v190
  let c0_i32_69 : BitVec 32 := 0#32
  let v192 : BitVec 1 := Scalar.cmpi .slt arg2 c0_i32_69
  let v193 : BitVec 32 := Scalar.extui v192
  let v194 : BitVec 32 := Scalar.subi v191 v193
  let c1_i32_67 : BitVec 32 := 1#32
  let c0_i32_70 : BitVec 32 := 0#32
  let v195 : BitVec 1 := Scalar.cmpi .sgt c1_i32_67 c0_i32_70
  let v196 : BitVec 32 := Scalar.extui v195
  let c0_i32_71 : BitVec 32 := 0#32
  let v197 : BitVec 1 := Scalar.cmpi .slt c1_i32_67 c0_i32_71
  let v198 : BitVec 32 := Scalar.extui v197
  let v199 : BitVec 32 := Scalar.subi v196 v198
  let v200 : BitVec 1 := Scalar.cmpi .ne v194 v199
  let v201 : BitVec 32 := Scalar.remsi arg2 c1_i32_67
  let c0_i32_72 : BitVec 32 := 0#32
  let v202 : BitVec 1 := Scalar.cmpi .ne v201 c0_i32_72
  let v203 : BitVec 1 := Scalar.andi v200 v202
  let v189 : BitVec 32 := Scalar.divsi arg2 c1_i32_67
  let c1_i32_73 : BitVec 32 := 1#32
  let v204 : BitVec 32 := Scalar.subi v189 c1_i32_73
  let v205 : BitVec 32 := Scalar.select v203 v204 v189
  let c6_i32 : BitVec 32 := 6#32
  let v206 : BitVec 1 := Scalar.cmpi .eq v205 c6_i32
  let v207 : BitVec 32 := Scalar.extui v206
  let c0_i32_74 : BitVec 32 := 0#32
  let v208 : BitVec 1 := Scalar.cmpi .ne v207 c0_i32_74
  v208

def k0_off7 (i : grid0.Coords) (c0_i32_88 : BitVec 32) (c0_i32_89 : BitVec 32) : Fin 4 → Nat :=
  let c0_92 : Index := 0#32
  let arg2 : BitVec 32 := BitVec.ofNat 32 (i 2).val
  let c2_i32_87 : BitVec 32 := 2#32
  let v235 : BitVec 32 := Scalar.muli arg2 c2_i32_87
  let v236 : BitVec 32 := Scalar.addi v235 c0_i32_88
  let v237 : BitVec 32 := Scalar.subi v236 c0_i32_89
  let c0_i32_91 : BitVec 32 := 0#32
  let v239 : BitVec 32 := Scalar.maxsi v237 c0_i32_91
  let v240 : Index := Scalar.indexCast v239
  let c0_93 : Index := 0#32
  let c0_94 : Index := 0#32
  ![0, v240.toNat, 0, 0]
def k0_cond8 (i : grid0.Coords) : BitVec 1 :=
  let arg2 : BitVec 32 := BitVec.ofNat 32 (i 2).val
  let c0_i32_76 : BitVec 32 := 0#32
  let v210 : BitVec 1 := Scalar.cmpi .sgt arg2 c0_i32_76
  let v211 : BitVec 32 := Scalar.extui v210
  let c0_i32_77 : BitVec 32 := 0#32
  let v212 : BitVec 1 := Scalar.cmpi .slt arg2 c0_i32_77
  let v213 : BitVec 32 := Scalar.extui v212
  let v214 : BitVec 32 := Scalar.subi v211 v213
  let c1_i32_75 : BitVec 32 := 1#32
  let c0_i32_78 : BitVec 32 := 0#32
  let v215 : BitVec 1 := Scalar.cmpi .sgt c1_i32_75 c0_i32_78
  let v216 : BitVec 32 := Scalar.extui v215
  let c0_i32_79 : BitVec 32 := 0#32
  let v217 : BitVec 1 := Scalar.cmpi .slt c1_i32_75 c0_i32_79
  let v218 : BitVec 32 := Scalar.extui v217
  let v219 : BitVec 32 := Scalar.subi v216 v218
  let v220 : BitVec 1 := Scalar.cmpi .ne v214 v219
  let v221 : BitVec 32 := Scalar.remsi arg2 c1_i32_75
  let c0_i32_80 : BitVec 32 := 0#32
  let v222 : BitVec 1 := Scalar.cmpi .ne v221 c0_i32_80
  let v223 : BitVec 1 := Scalar.andi v220 v222
  let v209 : BitVec 32 := Scalar.divsi arg2 c1_i32_75
  let c1_i32_81 : BitVec 32 := 1#32
  let v224 : BitVec 32 := Scalar.subi v209 c1_i32_81
  let v225 : BitVec 32 := Scalar.select v223 v224 v209
  let c7_i32 : BitVec 32 := 7#32
  let v226 : BitVec 1 := Scalar.cmpi .eq v225 c7_i32
  let v227 : BitVec 32 := Scalar.extui v226
  let c0_i32_82 : BitVec 32 := 0#32
  let v228 : BitVec 1 := Scalar.cmpi .ne v227 c0_i32_82
  v228

def k0_off8 (i : grid0.Coords) (c0_i32_88 : BitVec 32) (c0_i32_89 : BitVec 32) : Fin 4 → Nat :=
  let c0_92 : Index := 0#32
  let arg2 : BitVec 32 := BitVec.ofNat 32 (i 2).val
  let c2_i32_87 : BitVec 32 := 2#32
  let v235 : BitVec 32 := Scalar.muli arg2 c2_i32_87
  let v236 : BitVec 32 := Scalar.addi v235 c0_i32_88
  let v237 : BitVec 32 := Scalar.subi v236 c0_i32_89
  let c0_i32_91 : BitVec 32 := 0#32
  let v239 : BitVec 32 := Scalar.maxsi v237 c0_i32_91
  let v240 : Index := Scalar.indexCast v239
  let c0_93 : Index := 0#32
  let c0_94 : Index := 0#32
  ![0, v240.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Proof.Swiglu.lean ====
/-
  The gated hidden layer `silu(x·g) · (x·u)` over the extended reals, and the one fact about sums that a tiled
  feed-forward layer needs: a sum over the hidden units may be taken tile by tile.
-/
module

public import Idealize.ShloMosaic.PureOps.Ideal
public import Idealize.ShloMosaic.Lib.Pointwise

@[expose] public section

noncomputable section

namespace Cert.Swiglu

open Idealize.ShloMosaic
open scoped BigOperators

/-- One hidden unit: with `s` the product of the row `x` and the gate's column `g`, the value `s · 1/(1 + e^(-s))`
    times the product of `x` and the other column `u`. -/
def hidden {D : ℕ} (x g u : Fin D → EReal) : EReal :=
  (∑ d, x d * g d) * Ideal.div 1 (1 + Ideal.exp (-∑ d, x d * g d)) * ∑ d, x d * u d

/-- The same with the exponent written `0 - s`, as the kernels write a negation. -/
theorem hidden_zero_sub {D : ℕ} (x g u : Fin D → EReal) :
    (∑ d, x d * g d) * Ideal.div 1 (1 + Ideal.exp (0 - ∑ d, x d * g d)) * ∑ d, x d * u d = hidden x g u := by
  rw [hidden, zero_sub]

/-- A sum over `T` tiles of `W` consecutive places each is the sum over all `T · W` places. -/
theorem sum_tiles (W : ℕ) (f : ℕ → EReal) :
    ∀ T : ℕ, ∑ s ∈ Finset.range T, ∑ k : Fin W, f (W * s + k.val) = ∑ q ∈ Finset.range (W * T), f q
  | 0 => by simp
  | T + 1 => by
    rw [Finset.sum_range_succ, sum_tiles W f T, Nat.mul_succ, Finset.sum_range_add,
      Fin.sum_univ_eq_sum_range (fun k => f (W * T + k)) W]

/-- The same, the places given as a function on `Fin N` and each tile's as its restriction. -/
theorem sum_tiles_fin {N : ℕ} (W T : ℕ) (hN : W * T = N) (f : Fin N → EReal) (M : ℕ → EReal)
    (hM : ∀ s, (hs : s < T) → M s = ∑ k : Fin W, f ⟨W * s + k.val, by
      have := k.isLt; have h : W * (s + 1) ≤ W * T := Nat.mul_le_mul_left W hs; rw [Nat.mul_succ] at h; omega⟩) :
    ∑ s ∈ Finset.range T, M s = ∑ q : Fin N, f q := by
  subst hN
  rw [Finset.sum_congr rfl (g := fun s => ∑ k : Fin W, (fun q => if h : q < W * T then f ⟨q, h⟩ else 0) (W * s + k.val)),
    sum_tiles W (fun q => if h : q < W * T then f ⟨q, h⟩ else 0) T, ← Fin.sum_univ_eq_sum_range (fun q => if h : q < W * T then f ⟨q, h⟩ else 0)]
  · exact Finset.sum_congr rfl fun q _ => dif_pos q.isLt
  · intro s hs
    rw [hM s (Finset.mem_range.mp hs)]
    refine Finset.sum_congr rfl fun k _ => ?_
    dsimp only
    rw [dif_pos]

end Cert.Swiglu

end
-- ==== Proof.DenseKernel.lean ====
/-
  The dense feed-forward kernel over the extended reals: the array it returns, element by element, is the whole
  layer `∑ q, hidden q · down q` over all 5632 hidden units, which the kernel adds up in eleven tiles of 512.
-/
module

public import proofs.«01_k».proof.Proof.Gen.Kernel2Ideal.Value
public import proofs.«01_k».proof.Proof.Swiglu

@[expose] public section

set_option maxRecDepth 16384

noncomputable section

namespace Cert.Dense

open Idealize.ShloMosaic Idealize.ShloMosaic.TcCoe Idealize.SL.Sem
open Cert.Kernel2Ideal Cert.Kernel2Ideal.Gen Cert.Swiglu

variable (m : (ℓ : Loc nD τ sig) → Buf (Elt Ideal) ℓ)

/-- The layer at row `r` and output column `n`, of the activations and the three weight arrays. -/
def layer (x : FVec Ideal S17408x2048 .bf16) (wg wu : FVec Ideal S1x2048x5632 .f32) (wd : FVec Ideal S1x5632x2048 .f32)
    (r : Fin 17408) (n : Fin 2048) : EReal :=
  ∑ q : Fin 5632, hidden (fun d : Fin 2048 => x (ix2 r d)) (fun d => wg (ix3 0 d q)) (fun d => wu (ix3 0 d q))
    * wd (ix3 0 q n)

/-- The reset stores zeros. -/
theorem pay1_at (r : Fin 1024) (n : Fin 2048) : k0_pay1 (F := Ideal) (ix2 r n) = 0 := by
  pointwise [k0_pay1]

/-- A step adds its tile's part of the layer to what the block held. -/
theorem pay2_at (acc : Vec Ideal S1024x2048 .f32) (x : Vec Ideal S1024x2048 .bf16) (wg wu : Vec Ideal S2048x512 .bf16)
    (wd : Vec Ideal S512x2048 .bf16) (r : Fin 1024) (n : Fin 2048) :
    k0_pay2 acc x wg wu wd (ix2 r n) = acc (ix2 r n)
      + ∑ k : Fin 512, hidden (fun d : Fin 2048 => x (ix2 r d)) (fun d => wg (ix2 d k)) (fun d => wu (ix2 d k))
          * wd (ix2 k n) := by
  pointwise [k0_pay2]
  simp only [hidden_zero_sub]

/-- The block of every input window at every grid point: rows by the first grid coordinate, hidden units by the second. -/
theorem idx : ∀ t : Fin cfg0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = t.val % 11
    ∧ win0_3.index t (0 : Fin 2) = t.val % 11 ∧ win0_3.index t (1 : Fin 2) = 0 :=
  (by decide +kernel : ∀ t : Fin grid0.N, _)

theorem lt_N (t : Fin cfg0.N) : t.val < 187 := lt_of_lt_of_eq t.isLt (show cfg0.N = 187 from N_0)

/-- A weight matrix, its unit axis dropped and rounded (which over the reals changes nothing), at an index. -/
theorem up_at (w : FVec Ideal S1x2048x5632 .f32) (a : Fin 2048) (b : Fin 5632) :
    truncf (F := Ideal) .bf16 (shapeCast S2048x5632 w shapeCasts_S1x2048x5632_S2048x5632) bitsLt_bf16_f32 (ix2 a b)
      = w (ix3 0 a b) := by pointwise
theorem down_at (w : FVec Ideal S1x5632x2048 .f32) (a : Fin 5632) (b : Fin 2048) :
    truncf (F := Ideal) .bf16 (shapeCast S5632x2048 w shapeCasts_S1x5632x2048_S5632x2048) bitsLt_bf16_f32 (ix2 a b)
      = w (ix3 0 a b) := by pointwise

theorem V1 (c : Dev nD) : V m c main_v1 = truncf (F := Ideal) .bf16 (shapeCast S2048x5632 (m ((c : Thread nD τ).loc main_arg1))
    shapeCasts_S1x2048x5632_S2048x5632) bitsLt_bf16_f32 := by
  unfold V hostOps0; after_results; rfl
theorem V3 (c : Dev nD) : V m c main_v3 = truncf (F := Ideal) .bf16 (shapeCast S2048x5632 (m ((c : Thread nD τ).loc main_arg2))
    shapeCasts_S1x2048x5632_S2048x5632) bitsLt_bf16_f32 := by
  unfold V hostOps0; after_results; rfl
theorem V5 (c : Dev nD) : V m c main_v5 = truncf (F := Ideal) .bf16 (shapeCast S5632x2048 (m ((c : Thread nD τ).loc main_arg3))
    shapeCasts_S1x5632x2048_S5632x2048) bitsLt_bf16_f32 := by
  unfold V hostOps0; after_results; rfl

/-- The activations' block. -/
theorem blk0 (c : Dev nD) (t : Fin cfg0.N) (r : Fin 1024) (d : Fin 2048) :
    iblk m c 0 t (ix2 r d) = m ((c : Thread nD τ).loc main_arg0)
      (ix2 ⟨1024 * (t.val / 11) + r.val, by have := lt_N t; omega⟩ d) := by
  obtain ⟨e0, e1, -⟩ := idx t
  show V m c main_arg0 (((cfg0.win 0).blk t).view.emb (ix2 r d)) = _
  rw [V_main_arg0]
  congr 1
  apply Shape.idx_ext₂
  · show win0_0.index t (0 : Fin 2) * 1024 + 1 * r.val = 1024 * (t.val / 11) + r.val
    rw [e0]; omega
  · show win0_0.index t (1 : Fin 2) * 2048 + 1 * d.val = d.val
    rw [e1]; omega

/-- The gate weights' block. -/
theorem blk1 (c : Dev nD) (t : Fin cfg0.N) (d : Fin 2048) (k : Fin 512) :
    iblk m c 1 t (ix2 d k) = m ((c : Thread nD τ).loc main_arg1)
      (ix3 0 d ⟨512 * (t.val % 11) + k.val, by omega⟩) := by
  obtain ⟨-, -, e0, e1, -⟩ := idx t
  show V m c main_v1 (((cfg0.win 1).blk t).view.emb (ix2 d k)) = _
  have h : ((cfg0.win 1).blk t).view.emb (ix2 d k) = (ix2 d ⟨512 * (t.val % 11) + k.val, by omega⟩ : S2048x5632.Idx) := by
    apply Shape.idx_ext₂
    · show win0_1.index t (0 : Fin 2) * 2048 + 1 * d.val = d.val
      rw [e0]; omega
    · show win0_1.index t (1 : Fin 2) * 512 + 1 * k.val = 512 * (t.val % 11) + k.val
      rw [e1]; omega
  rw [h, V1]
  exact up_at _ _ _

/-- The other weights' block. -/
theorem blk2 (c : Dev nD) (t : Fin cfg0.N) (d : Fin 2048) (k : Fin 512) :
    iblk m c 2 t (ix2 d k) = m ((c : Thread nD τ).loc main_arg2)
      (ix3 0 d ⟨512 * (t.val % 11) + k.val, by omega⟩) := by
  obtain ⟨-, -, -, -, e0, e1, -⟩ := idx t
  show V m c main_v3 (((cfg0.win 2).blk t).view.emb (ix2 d k)) = _
  have h : ((cfg0.win 2).blk t).view.emb (ix2 d k) = (ix2 d ⟨512 * (t.val % 11) + k.val, by omega⟩ : S2048x5632.Idx) := by
    apply Shape.idx_ext₂
    · show win0_2.index t (0 : Fin 2) * 2048 + 1 * d.val = d.val
      rw [e0]; omega
    · show win0_2.index t (1 : Fin 2) * 512 + 1 * k.val = 512 * (t.val % 11) + k.val
      rw [e1]; omega
  rw [h, V3]
  exact up_at _ _ _

/-- The down weights' block. -/
theorem blk3 (c : Dev nD) (t : Fin cfg0.N) (k : Fin 512) (n : Fin 2048) :
    iblk m c 3 t (ix2 k n) = m ((c : Thread nD τ).loc main_arg3)
      (ix3 0 ⟨512 * (t.val % 11) + k.val, by omega⟩ n) := by
  obtain ⟨-, -, -, -, -, -, e0, e1⟩ := idx t
  show V m c main_v5 (((cfg0.win 3).blk t).view.emb (ix2 k n)) = _
  have h : ((cfg0.win 3).blk t).view.emb (ix2 k n) = (ix2 ⟨512 * (t.val % 11) + k.val, by omega⟩ n : S5632x2048.Idx) := by
    apply Shape.idx_ext₂
    · show win0_3.index t (0 : Fin 2) * 512 + 1 * k.val = 512 * (t.val % 11) + k.val
      rw [e0]; omega
    · show win0_3.index t (1 : Fin 2) * 2048 + 1 * n.val = n.val
      rw [e1]; omega
  rw [h, V5]
  exact down_at _ _ _

/-- What one grid point adds to its block, read off the arguments. -/
def part (c : Dev nD) (t : Fin cfg0.N) (r : Fin 1024) (n : Fin 2048) : EReal :=
  ∑ k : Fin 512, hidden
    (fun d : Fin 2048 => m ((c : Thread nD τ).loc main_arg0) (ix2 ⟨1024 * (t.val / 11) + r.val, by have := lt_N t; omega⟩ d))
    (fun d => m ((c : Thread nD τ).loc main_arg1) (ix3 0 d ⟨512 * (t.val % 11) + k.val, by omega⟩))
    (fun d => m ((c : Thread nD τ).loc main_arg2) (ix3 0 d ⟨512 * (t.val % 11) + k.val, by omega⟩))
    * m ((c : Thread nD τ).loc main_arg3) (ix3 0 ⟨512 * (t.val % 11) + k.val, by omega⟩ n)

theorem step_at (c : Dev nD) (t : ℕ) (h : t < cfg0.N) (acc : Vec Ideal S1024x2048 .f32) (r : Fin 1024) (n : Fin 2048) :
    k0_pay2 acc (iblk m c 0 ⟨t, h⟩) (iblk m c 1 ⟨t, h⟩) (iblk m c 2 ⟨t, h⟩) (iblk m c 3 ⟨t, h⟩) (ix2 r n)
      = acc (ix2 r n) + part m c ⟨t, h⟩ r n := by
  rw [pay2_at]
  simp only [blk0, blk1, blk2, blk3]
  rfl

/-- The returned array, element by element, is the layer. -/
theorem G4_at (c : Dev nD) (r : Fin 17408) (n : Fin 2048) :
    Value.G4 m c (ix2 r n) = layer (m ((c : Thread nD τ).loc main_arg0)) (m ((c : Thread nD τ).loc main_arg1))
      (m ((c : Thread nD τ).loc main_arg2)) (m ((c : Thread nD τ).loc main_arg3)) r n := by
  have hN : cfg0.N = 187 := N_0
  have hrun : Value.run4Of (ix2 r n) = r.val / 1024 := by
    show 1 * (r.val / 1024 - 0) + 1 * (n.val / 2048 - 0) = _
    have := n.isLt
    omega
  have hloc : Value.loc4Of (ix2 r n) = ix2 ⟨r.val % 1024, Nat.mod_lt _ (by decide)⟩ n := by
    apply Shape.idx_ext₂
    · rfl
    · show n.val % 2048 = n.val
      exact Nat.mod_eq_of_lt n.isLt
  unfold Value.G4
  have hb : 11 * Value.run4Of (ix2 r n) + 10 < cfg0.N := by rw [hrun]; omega
  rw [dif_pos hb, hloc,
    Pipeline.accAt_add_apply (Value.reset4 m c) (Value.step4 m c) (fun _ => (0 : EReal))
      (fun t i => if h : t < cfg0.N then part m c ⟨t, h⟩ (i 0) (i 1) else 0) _ 10
      (fun h i => by
        obtain ⟨a, b, rfl⟩ : ∃ (a : Fin 1024) (b : Fin 2048), i = ix2 a b := ⟨i 0, i 1, eq_ix2 i⟩
        rw [dif_pos h]
        exact (step_at m c _ h _ a b).trans (by rw [pay1_at]; rfl))
      (fun t h acc i _ _ => by
        obtain ⟨a, b, rfl⟩ : ∃ (a : Fin 1024) (b : Fin 2048), i = ix2 a b := ⟨i 0, i 1, eq_ix2 i⟩
        rw [dif_pos h]
        exact step_at m c _ h _ a b)
      10 le_rfl hb, zero_add]
  unfold layer
  refine sum_tiles_fin 512 11 rfl _ _ fun s hs => ?_
  have hlt : 11 * Value.run4Of (ix2 r n) + s < cfg0.N := by rw [hrun]; omega
  rw [dif_pos hlt]
  have e1 : (11 * Value.run4Of (ix2 r n) + s) / 11 = r.val / 1024 := by rw [hrun]; omega
  have e2 : (11 * Value.run4Of (ix2 r n) + s) % 11 = s := by omega
  generalize 11 * Value.run4Of (ix2 r n) + s = a at hlt e1 e2
  subst e2
  have hr : ∀ ha : 1024 * (a / 11) + r.val % 1024 < 17408, (⟨1024 * (a / 11) + r.val % 1024, ha⟩ : Fin 17408) = r :=
    fun _ => Fin.ext (by show 1024 * (a / 11) + r.val % 1024 = r.val; rw [e1]; omega)
  show part m c ⟨a, hlt⟩ ⟨r.val % 1024, _⟩ n = _
  unfold part
  refine Finset.sum_congr rfl fun k _ => ?_
  dsimp only
  rw [hr]

/-- The whole returned array is the layer's. -/
theorem G4_eq (c : Dev nD) : Value.G4 m c = fun i : S17408x2048.Idx => layer (m ((c : Thread nD τ).loc main_arg0))
    (m ((c : Thread nD τ).loc main_arg1)) (m ((c : Thread nD τ).loc main_arg2)) (m ((c : Thread nD τ).loc main_arg3))
    (i 0) (i 1) :=
  funext fun i => by
    obtain ⟨a, b, rfl⟩ : ∃ (a : Fin 17408) (b : Fin 2048), i = ix2 a b := ⟨i 0, i 1, eq_ix2 i⟩
    exact G4_at m c a b

end Cert.Dense

end
-- ==== Proof.ProjKernel.lean ====
/-
  The input projection over the extended reals: the array the kernel returns, element by element, is the product of
  a token's activations (the prompts' rows first, then the samples') and a column of the weights.
-/
module

public import proofs.«01_k».proof.Proof.Gen.Kernel3Ideal.Value
public import Idealize.ShloMosaic.Lib.Pointwise

@[expose] public section

set_option maxRecDepth 16384

noncomputable section

namespace Cert.Projection

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The product at token `r` and column `n`. -/
def product (xp : FVec Ideal S8x2048x2048 .f32) (xs : FVec Ideal S128x8x2048 .f32) (w : FVec Ideal S1x2048x6400 .f32)
    (r : Fin 17408) (n : Fin 6400) : EReal :=
  if h : r.val < 16384 then
    ∑ d : Fin 2048, xp (ix3 ⟨r.val / 2048, by omega⟩ ⟨r.val % 2048, Nat.mod_lt _ (by decide)⟩ d) * w (ix3 0 d n)
  else ∑ d : Fin 2048, xs (ix3 ⟨(r.val - 16384) / 8, by omega⟩ ⟨(r.val - 16384) % 8, Nat.mod_lt _ (by decide)⟩ d)
    * w (ix3 0 d n)

/-- One sum of a token's products, whichever of the two arrays the token lies in. -/
theorem sum_tokens (xp : FVec Ideal S8x2048x2048 .f32) (xs : FVec Ideal S128x8x2048 .f32)
    (w : FVec Ideal S1x2048x6400 .f32) (r : Fin 17408) (n : Fin 6400) :
    (∑ d : Fin 2048, (if h : r.val < 16384 then
        xp (ix3 ⟨r.val / 2048, by omega⟩ ⟨r.val % 2048, Nat.mod_lt _ (by decide)⟩ d)
      else xs (ix3 ⟨(r.val - 16384) / 8, by omega⟩ ⟨(r.val - 16384) % 8, Nat.mod_lt _ (by decide)⟩ d)) * w (ix3 0 d n))
      = product xp xs w r n := by
  unfold product
  by_cases h : r.val < 16384
  · rw [dif_pos h]
    exact Finset.sum_congr rfl fun d _ => by rw [dif_pos h]
  · rw [dif_neg h]
    exact Finset.sum_congr rfl fun d _ => by rw [dif_neg h]

/-- The block stored at a point: the product of the two loaded blocks. -/
theorem pay1_at (x : Vec Ideal S1024x2048 .bf16) (w : Vec Ideal S2048x1280 .bf16) (r : Fin 1024) (n : Fin 1280) :
    k0_pay1 x w (ix2 r n) = ∑ d : Fin 2048, x (ix2 r d) * w (ix2 d n) := by
  pointwise [k0_pay1]

/-- A stored element, of loaded blocks that hold rows of tokens and columns of weights. -/
theorem block_tokens (xp : FVec Ideal S8x2048x2048 .f32) (xs : FVec Ideal S128x8x2048 .f32)
    (w : FVec Ideal S1x2048x6400 .f32) (x' : Vec Ideal S1024x2048 .bf16) (w' : Vec Ideal S2048x1280 .bf16)
    (r : Fin 1024) (n : Fin 1280) (R : Fin 17408) (N : Fin 6400)
    (hx : ∀ d : Fin 2048, x' (ix2 r d) = if h : R.val < 16384 then
        xp (ix3 ⟨R.val / 2048, by omega⟩ ⟨R.val % 2048, Nat.mod_lt _ (by decide)⟩ d)
      else xs (ix3 ⟨(R.val - 16384) / 8, by omega⟩ ⟨(R.val - 16384) % 8, Nat.mod_lt _ (by decide)⟩ d))
    (hw : ∀ d : Fin 2048, w' (ix2 d n) = w (ix3 0 d N)) : k0_pay1 x' w' (ix2 r n) = product xp xs w R N := by
  rw [pay1_at, ← sum_tokens]
  exact Finset.sum_congr rfl fun d _ => by rw [hx d, hw d]

/-- The block of every window at every grid point. -/
theorem idx : ∀ t : Fin cfg0.N, win0_0.index t (0 : Fin 2) = t.val / 5 ∧ win0_0.index t (1 : Fin 2) = 0
    ∧ win0_1.index t (0 : Fin 2) = 0 ∧ win0_1.index t (1 : Fin 2) = t.val % 5
    ∧ win0_2.index t (0 : Fin 2) = t.val / 5 ∧ win0_2.index t (1 : Fin 2) = t.val % 5 :=
  (by decide +kernel : ∀ t : Fin grid0.N, _)

theorem flush_all : ∀ t : Fin cfg0.N, (cfg0.win 2).flush t = true :=
  (by decide +kernel : ∀ t : Fin grid0.N, win0_2.flush t = true)

theorem lt_N (t : Fin cfg0.N) : t.val < 85 := lt_of_lt_of_eq t.isLt (show cfg0.N = 85 from N_0)

/-- The tokens in one array, at an index. -/
theorem tokens_at (xp : FVec Ideal S8x2048x2048 .f32) (xs : FVec Ideal S128x8x2048 .f32) (r : Fin 17408) (d : Fin 2048) :
    truncf (F := Ideal) .bf16 (concatenate S17408x2048 0 [⟨S16384x2048, shapeCast S16384x2048 xp shapeCasts_S8x2048x2048_S16384x2048⟩,
      ⟨S1024x2048, shapeCast S1024x2048 xs shapeCasts_S128x8x2048_S1024x2048⟩]
      concatenates_S16384x2048_S1024x2048_S17408x2048_d0) bitsLt_bf16_f32 (ix2 r d)
      = if h : r.val < 16384 then xp (ix3 ⟨r.val / 2048, by omega⟩ ⟨r.val % 2048, Nat.mod_lt _ (by decide)⟩ d)
        else xs (ix3 ⟨(r.val - 16384) / 8, by omega⟩ ⟨(r.val - 16384) % 8, Nat.mod_lt _ (by decide)⟩ d) := by
  pointwise

theorem weights_at (w : FVec Ideal S1x2048x6400 .f32) (d : Fin 2048) (n : Fin 6400) :
    truncf (F := Ideal) .bf16 (shapeCast S2048x6400 w shapeCasts_S1x2048x6400_S2048x6400) bitsLt_bf16_f32 (ix2 d n)
      = w (ix3 0 d n) := by pointwise

theorem V3 (c : Dev nD) : V m c main_v3 = truncf (F := Ideal) .bf16 (concatenate S17408x2048 0
      [⟨S16384x2048, shapeCast S16384x2048 (m ((c : Thread nD τ).loc main_arg0)) shapeCasts_S8x2048x2048_S16384x2048⟩,
      ⟨S1024x2048, shapeCast S1024x2048 (m ((c : Thread nD τ).loc main_arg1)) shapeCasts_S128x8x2048_S1024x2048⟩]
      concatenates_S16384x2048_S1024x2048_S17408x2048_d0) bitsLt_bf16_f32 := by
  unfold V hostOps0; after_results; rfl
theorem V5 (c : Dev nD) : V m c main_v5 = truncf (F := Ideal) .bf16 (shapeCast S2048x6400 (m ((c : Thread nD τ).loc main_arg2))
    shapeCasts_S1x2048x6400_S2048x6400) bitsLt_bf16_f32 := by
  unfold V hostOps0; after_results; rfl

theorem hz : (![0, 0] : Fin 2 → Nat) = fun _ => 0 := funext fun a => by fin_cases a <;> rfl

/-- The whole returned array. -/
def G (c : Dev nD) : Buf (Elt Ideal) ((c : Thread nD τ).loc main_v6) := fun i =>
  product (m ((c : Thread nD τ).loc main_arg0)) (m ((c : Thread nD τ).loc main_arg1))
    (m ((c : Thread nD τ).loc main_arg2)) (i 0) (i 1)

/-- What a point writes back is its block of `G`. -/
theorem flushed_eq (c : Dev nD) (t : Fin cfg0.N) :
    (dats m 0 c).flushed 2 t = ((cfg0.win 2).blk t).view.read (Elt Ideal) (G m c) := by
  rw [Value.flushed2]
  obtain ⟨e0, e1, e2, e3, e4, e5⟩ := idx t
  have ht := lt_N t
  funext y
  obtain ⟨r, n, rfl⟩ : ∃ (r : Fin 1024) (n : Fin 1280), y = ix2 r n := ⟨y 0, y 1, eq_ix2 y⟩
  have ho : ((cfg0.win 2).blk t).view.emb (ix2 r n)
      = (ix2 ⟨1024 * (t.val / 5) + r.val, by omega⟩ ⟨1280 * (t.val % 5) + n.val, by omega⟩ : S17408x6400.Idx) := by
    apply Shape.idx_ext₂
    · show win0_2.index t (0 : Fin 2) * 1024 + 1 * r.val = 1024 * (t.val / 5) + r.val
      rw [e4]; omega
    · show win0_2.index t (1 : Fin 2) * 1280 + 1 * n.val = 1280 * (t.val % 5) + n.val
      rw [e5]; omega
  show out0_2 (iblk m c 0 t) (iblk m c 1 t) (ix2 r n) = G m c (((cfg0.win 2).blk t).view.emb (ix2 r n))
  rw [ho]
  unfold out0_2
  rw [View.canon_unit_zero hz, View.ld_unit_zero hz, View.ld_unit_zero hz]
  have hx : ∀ d : Fin 2048, iblk m c 0 t (ix2 r d) = V m c main_v3 (ix2 ⟨1024 * (t.val / 5) + r.val, by omega⟩ d) := by
    intro d
    show V m c main_v3 (((cfg0.win 0).blk t).view.emb (ix2 r d)) = _
    congr 1
    apply Shape.idx_ext₂
    · show win0_0.index t (0 : Fin 2) * 1024 + 1 * r.val = 1024 * (t.val / 5) + r.val
      rw [e0]; omega
    · show win0_0.index t (1 : Fin 2) * 2048 + 1 * d.val = d.val
      rw [e1]; omega
  have hw : ∀ d : Fin 2048, iblk m c 1 t (ix2 d n) = V m c main_v5 (ix2 d ⟨1280 * (t.val % 5) + n.val, by omega⟩) := by
    intro d
    show V m c main_v5 (((cfg0.win 1).blk t).view.emb (ix2 d n)) = _
    congr 1
    apply Shape.idx_ext₂
    · show win0_1.index t (0 : Fin 2) * 2048 + 1 * d.val = d.val
      rw [e2]; omega
    · show win0_1.index t (1 : Fin 2) * 1280 + 1 * n.val = 1280 * (t.val % 5) + n.val
      rw [e3]; omega
  have hX : ∀ d : Fin 2048, iblk m c 0 t (ix2 r d) = _ := fun d =>
    (hx d).trans ((congrFun (V3 m c) _).trans (tokens_at _ _ _ d))
  have hW : ∀ d : Fin 2048, iblk m c 1 t (ix2 d n) = _ := fun d =>
    (hw d).trans ((congrFun (V5 m c) _).trans (weights_at _ d _))
  exact (block_tokens _ _ _ _ _ r n ⟨1024 * (t.val / 5) + r.val, by omega⟩ ⟨1280 * (t.val % 5) + n.val, by omega⟩ hX hW)

/-- An index is in point `t`'s block iff each coordinate is in the block's range. -/
theorem mem_blk (t : Fin cfg0.N) (i : S17408x6400.Idx) :
    i ∈ ((cfg0.win 2).blk t).view.set ↔ ∀ a : Fin 2, win0_2.index t a * S1024x1280.size a ≤ (i a).val
      ∧ (i a).val < win0_2.index t a * S1024x1280.size a + S1024x1280.size a := by
  show i ∈ ((View.whole main_v6).slice (win0_2.rect t)).set ↔ _
  rw [View.set_slice_whole, Rect.mem_set_unit]
  exact Iff.rfl

/-- The blocks tile the array, so it ends as `G`. -/
theorem final (c : Dev nD) : (dats m 0 c).arrAt 2 cfg0.N = G m c :=
  (dats m 0 c).arrAt_eq_of_cover 2 _ (fun t _ => flushed_eq m c t) (fun i => by
    have h0 : (i 0).val < 17408 := (i 0).isLt
    have h1 : (i 1).val < 6400 := (i 1).isLt
    let t : Fin cfg0.N := ⟨5 * ((i 0).val / 1024) + (i 1).val / 1280, by rw [show cfg0.N = 85 from N_0]; omega⟩
    refine ⟨t, flush_all t, ?_⟩
    rw [mem_blk]
    obtain ⟨-, -, -, -, e4, e5⟩ := idx t
    have et0 : t.val / 5 = (i 0).val / 1024 := by show (5 * ((i 0).val / 1024) + (i 1).val / 1280) / 5 = _; omega
    have et1 : t.val % 5 = (i 1).val / 1280 := by show (5 * ((i 0).val / 1024) + (i 1).val / 1280) % 5 = _; omega
    intro a
    match a with
    | ⟨0, _⟩ =>
      show win0_2.index t (0 : Fin 2) * 1024 ≤ (i 0).val ∧ (i 0).val < win0_2.index t (0 : Fin 2) * 1024 + 1024
      rw [e4, et0]; omega
    | ⟨1, _⟩ =>
      show win0_2.index t (1 : Fin 2) * 1280 ≤ (i 1).val ∧ (i 1).val < win0_2.index t (1 : Fin 2) * 1280 + 1280
      rw [e5, et1]; omega)

end Cert.Projection

end
-- ==== Proof.References.lean ====
/-
  What the plain references of the dense layer and of the projection compute, element by element.
-/
module

public import proofs.«01_k».proof.Proof.Gen.Reference2Ideal.Run
public import proofs.«01_k».proof.Proof.Gen.Reference3Ideal.Run
public import proofs.«01_k».proof.Proof.DenseKernel
public import proofs.«01_k».proof.Proof.ProjKernel

@[expose] public section

set_option maxRecDepth 16384

noncomputable section

open Idealize.ShloMosaic Idealize.ShloMosaic.TcCoe Idealize.SL.Sem

namespace Cert.Dense

open Cert.Reference2Ideal Cert.Reference2Ideal.Gen

/-- The reference's term is the layer. -/
theorem reference_at (x : FVec Ideal S17408x2048 .bf16) (wg wu : FVec Ideal S1x2048x5632 .f32)
    (wd : FVec Ideal S1x5632x2048 .f32) (r : Fin 17408) (n : Fin 2048) :
   (Host.dotGeneral (F := Ideal) dot_S17408x5632_S5632x2048_S17408x2048_1_0_0_1_n_n none (mulf (mulf (Host.dotGeneral dot_S17408x2048_S2048x5632_S17408x5632_1_0_0_1_n_n none (extf .f32 x bitsLt_bf16_f32) (shapeCast _ wg shapeCasts_S1x2048x5632_S2048x5632)) (Host.divf (broadcastInDim S17408x5632 ![] bcast_S_S17408x5632 (constant S_ .f32 0x3F800000#32)) (addf (broadcastInDim S17408x5632 ![] bcast_S_S17408x5632 (constant S_ .f32 0x3F800000#32)) (Host.exp (Host.negf (Host.dotGeneral dot_S17408x2048_S2048x5632_S17408x5632_1_0_0_1_n_n none (extf .f32 x bitsLt_bf16_f32) (shapeCast _ wg shapeCasts_S1x2048x5632_S2048x5632))))))) (Host.dotGeneral dot_S17408x2048_S2048x5632_S17408x5632_1_0_0_1_n_n none (extf .f32 x bitsLt_bf16_f32) (shapeCast _ wu shapeCasts_S1x2048x5632_S2048x5632))) (shapeCast _ wd shapeCasts_S1x5632x2048_S5632x2048) : FVec Ideal S17408x2048 .f32) (ix2 r n)
      = layer x wg wu wd r n := by
  pointwise
  rfl

/-- The reference runs to the layer's array. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = (fun i => layer (m ((c.tc : Thread nD τ).loc main_arg0))
        (m ((c.tc : Thread nD τ).loc main_arg1)) (m ((c.tc : Thread nD τ).loc main_arg2))
        (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun i => by
      obtain ⟨a, b, rfl⟩ : ∃ (a : Fin 17408) (b : Fin 2048), i = ix2 a b := ⟨i 0, i 1, eq_ix2 i⟩
      exact reference_at _ _ _ _ a b), (h c).2⟩)
    (Value.run m ρ)

end Cert.Dense

namespace Cert.Projection

open Cert.Reference3Ideal Cert.Reference3Ideal.Gen

/-- The reference's term is the product. -/
theorem reference_at (xp : FVec Ideal S8x2048x2048 .f32) (xs : FVec Ideal S128x8x2048 .f32) (w : FVec Ideal S1x2048x6400 .f32) (r : Fin 17408) (n : Fin 6400) :
   ((concatenate S17408x6400 0 [⟨S16384x6400, (shapeCast _ (Host.dotGeneral (F := Ideal) dot_S8x2048x2048_S2048x6400_S8x2048x6400_2_0_01_1_n_n none xp (shapeCast _ w shapeCasts_S1x2048x6400_S2048x6400)) shapeCasts_S8x2048x6400_S16384x6400)⟩, ⟨S1024x6400, (shapeCast _ (Host.dotGeneral (F := Ideal) dot_S128x8x2048_S2048x6400_S128x8x6400_2_0_01_1_n_n none xs (shapeCast _ w shapeCasts_S1x2048x6400_S2048x6400)) shapeCasts_S128x8x6400_S1024x6400)⟩] concatenates_S16384x6400_S1024x6400_S17408x6400_d0 : FVec Ideal S17408x6400 .f32)) (ix2 r n)
      = product xp xs w r n := by
  pointwise
  rfl

/-- The reference runs to the product's array. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = (fun i => product (m ((c.tc : Thread nD τ).loc main_arg0))
        (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      obtain ⟨a, b, rfl⟩ : ∃ (a : Fin 17408) (b : Fin 6400), i = ix2 a b := ⟨i 0, i 1, eq_ix2 i⟩
      exact reference_at _ _ _ a b), (h c).2⟩)
    (Value.run m ρ)

end Cert.Projection

end
-- ==== Proof.OddProjection.lean ====
/-
  The odd layer's input projection over the extended reals: kernel and reference both return, at every token and
  column, the token's activations times the column of weights.
-/
module

public import proofs.«01_k».proof.Proof.Gen.Kernel4Ideal.Value
public import proofs.«01_k».proof.Proof.Gen.Reference4Ideal.Run
public import Idealize.ShloMosaic.Lib.Pointwise

@[expose] public section

set_option maxRecDepth 16384

noncomputable section

open Idealize.ShloMosaic Idealize.ShloMosaic.TcCoe Idealize.SL.Sem

namespace Cert.OddProjection

open Idealize.ShloMosaic.Pipeline (Dat)
open Cert.Kernel4Ideal Cert.Kernel4Ideal.Gen

variable (m : (ℓ : Loc nD τ sig) → Buf (Elt Ideal) ℓ)

/-- The product at token `r` and column `n`. -/
def product (x : FVec Ideal S17408x2048 .bf16) (w : FVec Ideal S1x2048x6144 .f32) (r : Fin 17408) (n : Fin 6144) : EReal :=
  ∑ d : Fin 2048, x (ix2 r d) * w (ix3 0 d n)

/-- One stored block is the product of the two loaded ones. -/
theorem stored_at (x : Vec Ideal S1024x2048 .bf16) (w : Vec Ideal S2048x1024 .bf16) (r n : Fin 1024) :
    k0_pay1 x w (ix2 r n) = ∑ d : Fin 2048, x (ix2 r d) * w (ix2 d n) := by
  pointwise [k0_pay1]

/-- Point `t` takes row block `t / 6` and column block `t % 6`. -/
theorem place : ∀ t : Fin cfg0.N, win0_0.index t (0 : Fin 2) = t.val / 6 ∧ win0_0.index t (1 : Fin 2) = 0
    ∧ win0_1.index t (0 : Fin 2) = 0 ∧ win0_1.index t (1 : Fin 2) = t.val % 6
    ∧ win0_2.index t (0 : Fin 2) = t.val / 6 ∧ win0_2.index t (1 : Fin 2) = t.val % 6 ∧ win0_2.flush t = true :=
  (by decide +kernel : ∀ t : Fin grid0.N, _)

theorem points (t : Fin cfg0.N) : t.val < 102 := lt_of_lt_of_eq t.isLt (show cfg0.N = 102 from N_0)

theorem cast_at (w : FVec Ideal S1x2048x6144 .f32) (d : Fin 2048) (n : Fin 6144) :
    truncf (F := Ideal) .bf16 (shapeCast S2048x6144 w shapeCasts_S1x2048x6144_S2048x6144) bitsLt_bf16_f32 (ix2 d n)
      = w (ix3 0 d n) := by pointwise

/-- The weights as the call receives them. -/
theorem weights (c : Dev nD) : V m c main_v1 = truncf (F := Ideal) .bf16 (shapeCast S2048x6144
    (m ((c : Thread nD τ).loc main_arg1)) shapeCasts_S1x2048x6144_S2048x6144) bitsLt_bf16_f32 := by
  unfold V hostOps0; after_results; rfl

/-- A stored element, of loaded blocks that hold rows of tokens and columns of weights. -/
theorem stored_rows (x : FVec Ideal S17408x2048 .bf16) (w : FVec Ideal S1x2048x6144 .f32) (x' : Vec Ideal S1024x2048 .bf16)
    (w' : Vec Ideal S2048x1024 .bf16) (r n : Fin 1024) (R : Fin 17408) (N : Fin 6144)
    (hx : ∀ d : Fin 2048, x' (ix2 r d) = x (ix2 R d)) (hw : ∀ d : Fin 2048, w' (ix2 d n) = w (ix3 0 d N)) :
    k0_pay1 x' w' (ix2 r n) = product x w R N := by
  rw [stored_at]
  exact Finset.sum_congr rfl fun d _ => by rw [hx d, hw d]

theorem zeros : (![0, 0] : Fin 2 → Nat) = fun _ => 0 := funext fun a => by fin_cases a <;> rfl

/-- The whole returned array. -/
def G (c : Dev nD) : Buf (Elt Ideal) ((c : Thread nD τ).loc main_v2) := fun i =>
  product (m ((c : Thread nD τ).loc main_arg0)) (m ((c : Thread nD τ).loc main_arg1)) (i 0) (i 1)

/-- What a point writes back is its block of `G`. -/
theorem flushed_eq (c : Dev nD) (t : Fin cfg0.N) :
    (dats m 0 c).flushed 2 t = ((cfg0.win 2).blk t).view.read (Elt Ideal) (G m c) := by
  rw [Value.flushed2]
  obtain ⟨e0, e1, e2, e3, e4, e5, -⟩ := place t
  have ht := points t
  funext y
  obtain ⟨r, n, rfl⟩ : ∃ r n : Fin 1024, y = ix2 r n := ⟨y 0, y 1, eq_ix2 y⟩
  have ho : ((cfg0.win 2).blk t).view.emb (ix2 r n)
      = (ix2 ⟨1024 * (t.val / 6) + r.val, by omega⟩ ⟨1024 * (t.val % 6) + n.val, by omega⟩ : S17408x6144.Idx) := by
    apply Shape.idx_ext₂
    · show win0_2.index t (0 : Fin 2) * 1024 + 1 * r.val = 1024 * (t.val / 6) + r.val
      rw [e4]; omega
    · show win0_2.index t (1 : Fin 2) * 1024 + 1 * n.val = 1024 * (t.val % 6) + n.val
      rw [e5]; omega
  show out0_2 (iblk m c 0 t) (iblk m c 1 t) (ix2 r n) = G m c (((cfg0.win 2).blk t).view.emb (ix2 r n))
  rw [ho]
  unfold out0_2
  rw [View.canon_unit_zero zeros, View.ld_unit_zero zeros, View.ld_unit_zero zeros]
  have hx : ∀ d : Fin 2048, iblk m c 0 t (ix2 r d) = V m c main_arg0 (ix2 ⟨1024 * (t.val / 6) + r.val, by omega⟩ d) := by
    intro d
    show V m c main_arg0 (((cfg0.win 0).blk t).view.emb (ix2 r d)) = _
    congr 1
    apply Shape.idx_ext₂
    · show win0_0.index t (0 : Fin 2) * 1024 + 1 * r.val = 1024 * (t.val / 6) + r.val
      rw [e0]; omega
    · show win0_0.index t (1 : Fin 2) * 2048 + 1 * d.val = d.val
      rw [e1]; omega
  have hw : ∀ d : Fin 2048, iblk m c 1 t (ix2 d n) = V m c main_v1 (ix2 d ⟨1024 * (t.val % 6) + n.val, by omega⟩) := by
    intro d
    show V m c main_v1 (((cfg0.win 1).blk t).view.emb (ix2 d n)) = _
    congr 1
    apply Shape.idx_ext₂
    · show win0_1.index t (0 : Fin 2) * 2048 + 1 * d.val = d.val
      rw [e2]; omega
    · show win0_1.index t (1 : Fin 2) * 1024 + 1 * n.val = 1024 * (t.val % 6) + n.val
      rw [e3]; omega
  exact stored_rows _ _ _ _ r n ⟨1024 * (t.val / 6) + r.val, by omega⟩ ⟨1024 * (t.val % 6) + n.val, by omega⟩
    (fun d => (hx d).trans (congrFun (V_main_arg0 m c) _))
    (fun d => (hw d).trans ((congrFun (weights m c) _).trans (cast_at _ d _)))

/-- An index is in point `t`'s block iff each coordinate is in the block's range. -/
theorem mem_block (t : Fin cfg0.N) (i : S17408x6144.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

/-- The blocks tile the array, so it ends as `G`. -/
theorem final (c : Dev nD) : (dats m 0 c).arrAt 2 cfg0.N = G m c :=
  (dats m 0 c).arrAt_eq_of_cover 2 _ (fun t _ => flushed_eq m c t) (fun i => by
    have h0 : (i 0).val < 17408 := (i 0).isLt
    have h1 : (i 1).val < 6144 := (i 1).isLt
    let t : Fin cfg0.N := ⟨6 * ((i 0).val / 1024) + (i 1).val / 1024, by rw [show cfg0.N = 102 from N_0]; omega⟩
    obtain ⟨-, -, -, -, e4, e5, hf⟩ := place t
    refine ⟨t, hf, ?_⟩
    rw [mem_block]
    have et0 : t.val / 6 = (i 0).val / 1024 := by show (6 * ((i 0).val / 1024) + (i 1).val / 1024) / 6 = _; omega
    have et1 : t.val % 6 = (i 1).val / 1024 := by show (6 * ((i 0).val / 1024) + (i 1).val / 1024) % 6 = _; omega
    intro a
    match a with
    | ⟨0, _⟩ =>
      show win0_2.index t (0 : Fin 2) * 1024 ≤ (i 0).val ∧ (i 0).val < win0_2.index t (0 : Fin 2) * 1024 + 1024
      rw [e4, et0]; omega
    | ⟨1, _⟩ =>
      show win0_2.index t (1 : Fin 2) * 1024 ≤ (i 1).val ∧ (i 1).val < win0_2.index t (1 : Fin 2) * 1024 + 1024
      rw [e5, et1]; omega)

end Cert.OddProjection

namespace Cert.OddProjection

open Cert.Reference4Ideal Cert.Reference4Ideal.Gen

/-- The reference's term is the product. -/
theorem reference_at (x : FVec Ideal S17408x2048 .bf16) (w : FVec Ideal S1x2048x6144 .f32) (r : Fin 17408) (n : Fin 6144) :
    (Host.dotGeneral (F := Ideal) dot_S17408x2048_S2048x6144_S17408x6144_1_0_0_1_n_n none (extf .f32 x bitsLt_bf16_f32)
      (shapeCast _ w shapeCasts_S1x2048x6144_S2048x6144) : FVec Ideal S17408x6144 .f32) (ix2 r n) = product x w r n := by
  pointwise
  rfl

/-- The reference runs to the product's array. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun i => product (m ((c.tc : Thread nD τ).loc main_arg0))
        (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => by
      obtain ⟨a, b, rfl⟩ : ∃ (a : Fin 17408) (b : Fin 6144), i = ix2 a b := ⟨i 0, i 1, eq_ix2 i⟩
      exact reference_at _ _ a b), (h c).2⟩)
    (Value.run m ρ)

end Cert.OddProjection

end
-- ==== Proof.Embedding.lean ====
/-
  The per-layer embedding over the extended reals: kernel and reference both return, at every token and column, the
  sigmoid of the token's activations times a column of the gate, multiplied by the token's own embedding row times the
  same column of the second weight.
-/
module

public import proofs.«01_k».proof.Proof.Gen.Kernel5Ideal.Value
public import proofs.«01_k».proof.Proof.Gen.Reference5Ideal.Run
public import Idealize.ShloMosaic.Lib.Pointwise

@[expose] public section

set_option maxRecDepth 16384

noncomputable section

open Idealize.ShloMosaic Idealize.ShloMosaic.TcCoe Idealize.SL.Sem

namespace Cert.Embedding

open Idealize.ShloMosaic.Pipeline (Dat)
open Cert.Kernel5Ideal Cert.Kernel5Ideal.Gen

variable (m : (ℓ : Loc nD τ sig) → Buf (Elt Ideal) ℓ)

/-- Token `r`'s embedding row at column `d`: the prompts' tokens come first, the samples' after them. -/
def row (pp : FVec Ideal S2x8x2048x256 .f32) (ps : FVec Ideal S2x128x8x256 .f32) (r : Fin 17408) (d : Fin 256) : EReal :=
  if h : r.val < 16384 then pp (ix4 0 ⟨r.val / 2048, by omega⟩ ⟨r.val % 2048, Nat.mod_lt _ (by decide)⟩ d)
  else ps (ix4 0 ⟨(r.val - 16384) / 8, by omega⟩ ⟨(r.val - 16384) % 8, Nat.mod_lt _ (by decide)⟩ d)

/-- The gated embedding at token `r` and column `n`. -/
def gated (x : FVec Ideal S17408x2048 .bf16) (pp : FVec Ideal S2x8x2048x256 .f32) (ps : FVec Ideal S2x128x8x256 .f32)
    (w : FVec Ideal S2x2048x2048 .f32) (u : FVec Ideal S2x256x2048 .f32) (r : Fin 17408) (n : Fin 2048) : EReal :=
  Ideal.div 1 (1 + Ideal.exp (-∑ d : Fin 2048, x (ix2 r d) * w (ix3 0 d n)))
    * ∑ d : Fin 256, row pp ps r d * u (ix3 0 d n)

/-- The first layer's slice of the prompts' rows. -/
theorem prompt_slice (xp : FVec Ideal S2x8x2048x256 .f32) (b : Fin 8) (t : Fin 2048) (d : Fin 256) :
    (shapeCast S8x2048x256 (extractStridedSlice S1x8x2048x256 ![0, 0, 0, 0] xp slices_S2x8x2048x256_S1x8x2048x256_0_0_0_0)
      shapeCasts_S1x8x2048x256_S8x2048x256 : FVec Ideal S8x2048x256 .f32) (ix3 b t d) = xp (ix4 0 b t d) := by pointwise

/-- The first layer's slice of the samples' rows. -/
theorem sample_slice (xs : FVec Ideal S2x128x8x256 .f32) (b : Fin 128) (t : Fin 8) (d : Fin 256) :
    (shapeCast S128x8x256 (extractStridedSlice S1x128x8x256 ![0, 0, 0, 0] xs slices_S2x128x8x256_S1x128x8x256_0_0_0_0)
      shapeCasts_S1x128x8x256_S128x8x256 : FVec Ideal S128x8x256 .f32) (ix3 b t d) = xs (ix4 0 b t d) := by pointwise

theorem gate_slice (w : FVec Ideal S2x2048x2048 .f32) (d n : Fin 2048) :
    (shapeCast S2048x2048 (extractStridedSlice S1x2048x2048 ![0, 0, 0] w slices_S2x2048x2048_S1x2048x2048_0_0_0)
      shapeCasts_S1x2048x2048_S2048x2048 : FVec Ideal S2048x2048 .f32) (ix2 d n) = w (ix3 0 d n) := by pointwise

theorem proj_slice (u : FVec Ideal S2x256x2048 .f32) (d : Fin 256) (n : Fin 2048) :
    (shapeCast S256x2048 (extractStridedSlice S1x256x2048 ![0, 0, 0] u slices_S2x256x2048_S1x256x2048_0_0_0)
      shapeCasts_S1x256x2048_S256x2048 : FVec Ideal S256x2048 .f32) (ix2 d n) = u (ix3 0 d n) := by pointwise

/-- Two arrays of tokens end to end, at an index. -/
theorem joined_at (xp : FVec Ideal S8x2048x256 .f32) (xs : FVec Ideal S128x8x256 .f32) (r : Fin 17408) (d : Fin 256) :
    truncf (F := Ideal) .bf16 (concatenate S17408x256 0 [⟨S16384x256, shapeCast S16384x256 xp shapeCasts_S8x2048x256_S16384x256⟩,
      ⟨S1024x256, shapeCast S1024x256 xs shapeCasts_S128x8x256_S1024x256⟩]
      concatenates_S16384x256_S1024x256_S17408x256_d0) bitsLt_bf16_f32 (ix2 r d)
      = if h : r.val < 16384 then xp (ix3 ⟨r.val / 2048, by omega⟩ ⟨r.val % 2048, Nat.mod_lt _ (by decide)⟩ d)
        else xs (ix3 ⟨(r.val - 16384) / 8, by omega⟩ ⟨(r.val - 16384) % 8, Nat.mod_lt _ (by decide)⟩ d) := by pointwise

/-- One stored block, of the four loaded ones. -/
theorem stored_at (x : Vec Ideal S1024x2048 .bf16) (w : Vec Ideal S2048x1024 .bf16) (p : Vec Ideal S1024x256 .bf16)
    (u : Vec Ideal S256x1024 .bf16) (r n : Fin 1024) :
    k0_pay1 x w p u (ix2 r n) = Ideal.div 1 (1 + Ideal.exp (0 - ∑ d : Fin 2048, x (ix2 r d) * w (ix2 d n)))
      * ∑ d : Fin 256, p (ix2 r d) * u (ix2 d n) := by
  pointwise [k0_pay1]

/-- Point `t` takes row block `t / 2` and column block `t % 2`. -/
theorem place : ∀ t : Fin cfg0.N, win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = t.val / 2 ∧ win0_2.index t (1 : Fin 2) = 0
    ∧ win0_3.index t (0 : Fin 2) = 0 ∧ win0_3.index t (1 : Fin 2) = t.val % 2
    ∧ win0_4.index t (0 : Fin 2) = t.val / 2 ∧ win0_4.index t (1 : Fin 2) = t.val % 2 ∧ win0_4.flush t = true :=
  (by decide +kernel : ∀ t : Fin grid0.N, _)

theorem points (t : Fin cfg0.N) : t.val < 34 := lt_of_lt_of_eq t.isLt (show cfg0.N = 34 from N_0)

/-- The rows as the call receives them. -/
theorem V_rows (c : Dev nD) : V m c main_v10 = truncf (F := Ideal) .bf16 (concatenate S17408x256 0
      [⟨S16384x256, shapeCast S16384x256 (shapeCast S8x2048x256 (extractStridedSlice S1x8x2048x256 ![0, 0, 0, 0]
        (m ((c : Thread nD τ).loc main_arg1)) slices_S2x8x2048x256_S1x8x2048x256_0_0_0_0)
        shapeCasts_S1x8x2048x256_S8x2048x256) shapeCasts_S8x2048x256_S16384x256⟩,
       ⟨S1024x256, shapeCast S1024x256 (shapeCast S128x8x256 (extractStridedSlice S1x128x8x256 ![0, 0, 0, 0]
        (m ((c : Thread nD τ).loc main_arg2)) slices_S2x128x8x256_S1x128x8x256_0_0_0_0)
        shapeCasts_S1x128x8x256_S128x8x256) shapeCasts_S128x8x256_S1024x256⟩]
      concatenates_S16384x256_S1024x256_S17408x256_d0) bitsLt_bf16_f32 := by
  unfold V hostOps0; after_results; rfl

theorem V_gate (c : Dev nD) : V m c main_v9 = truncf (F := Ideal) .bf16 (shapeCast S2048x2048
      (extractStridedSlice S1x2048x2048 ![0, 0, 0] (m ((c : Thread nD τ).loc main_arg3))
        slices_S2x2048x2048_S1x2048x2048_0_0_0) shapeCasts_S1x2048x2048_S2048x2048) bitsLt_bf16_f32 := by
  unfold V hostOps0; after_results; rfl

theorem V_proj (c : Dev nD) : V m c main_v13 = truncf (F := Ideal) .bf16 (shapeCast S256x2048
      (extractStridedSlice S1x256x2048 ![0, 0, 0] (m ((c : Thread nD τ).loc main_arg4))
        slices_S2x256x2048_S1x256x2048_0_0_0) shapeCasts_S1x256x2048_S256x2048) bitsLt_bf16_f32 := by
  unfold V hostOps0; after_results; rfl

/-- The call's rows at an index. -/
theorem rows_at (c : Dev nD) (r : Fin 17408) (d : Fin 256) : V m c main_v10 (ix2 r d)
    = row (m ((c : Thread nD τ).loc main_arg1)) (m ((c : Thread nD τ).loc main_arg2)) r d := by
  refine ((congrFun (V_rows m c) _).trans (joined_at _ _ r d)).trans ?_
  unfold row
  by_cases h : r.val < 16384
  · rw [dif_pos h, dif_pos h]; exact prompt_slice _ _ _ _
  · rw [dif_neg h, dif_neg h]; exact sample_slice _ _ _ _

theorem gate_at (c : Dev nD) (d n : Fin 2048) : V m c main_v9 (ix2 d n)
    = (m ((c : Thread nD τ).loc main_arg3) : FVec Ideal S2x2048x2048 .f32) (ix3 0 d n) :=
  (congrFun (V_gate m c) _).trans (gate_slice _ d n)

theorem proj_at (c : Dev nD) (d : Fin 256) (n : Fin 2048) : V m c main_v13 (ix2 d n)
    = (m ((c : Thread nD τ).loc main_arg4) : FVec Ideal S2x256x2048 .f32) (ix3 0 d n) :=
  (congrFun (V_proj m c) _).trans (proj_slice _ d n)

/-- A stored element, of loaded blocks that hold rows of tokens and columns of weights. -/
theorem stored_rows (x : FVec Ideal S17408x2048 .bf16) (pp : FVec Ideal S2x8x2048x256 .f32) (ps : FVec Ideal S2x128x8x256 .f32)
    (w : FVec Ideal S2x2048x2048 .f32) (u : FVec Ideal S2x256x2048 .f32) (x' : Vec Ideal S1024x2048 .bf16)
    (w' : Vec Ideal S2048x1024 .bf16) (p' : Vec Ideal S1024x256 .bf16) (u' : Vec Ideal S256x1024 .bf16)
    (r n : Fin 1024) (R : Fin 17408) (N : Fin 2048)
    (hx : ∀ d : Fin 2048, x' (ix2 r d) = x (ix2 R d)) (hw : ∀ d : Fin 2048, w' (ix2 d n) = w (ix3 0 d N))
    (hp : ∀ d : Fin 256, p' (ix2 r d) = row pp ps R d) (hu : ∀ d : Fin 256, u' (ix2 d n) = u (ix3 0 d N)) :
    k0_pay1 x' w' p' u' (ix2 r n) = gated x pp ps w u R N := by
  rw [stored_at, gated, zero_sub]
  congr 1
  · rw [Finset.sum_congr rfl fun d _ => by rw [hx d, hw d]]
  · exact Finset.sum_congr rfl fun d _ => by rw [hp d, hu d]

theorem zeros : (![0, 0] : Fin 2 → Nat) = fun _ => 0 := funext fun a => by fin_cases a <;> rfl

/-- The whole returned array. -/
def G (c : Dev nD) : Buf (Elt Ideal) ((c : Thread nD τ).loc main_v14) := fun i =>
  gated (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a point writes back is its block of `G`. -/
theorem flushed_eq (c : Dev nD) (t : Fin cfg0.N) :
    (dats m 0 c).flushed 4 t = ((cfg0.win 4).blk t).view.read (Elt Ideal) (G m c) := by
  rw [Value.flushed4]
  obtain ⟨e0, e1, e2, e3, e4, e5, e6, e7, e8, e9, -⟩ := place t
  have ht := points t
  funext y
  obtain ⟨r, n, rfl⟩ : ∃ r n : Fin 1024, y = ix2 r n := ⟨y 0, y 1, eq_ix2 y⟩
  have ho : ((cfg0.win 4).blk t).view.emb (ix2 r n)
      = (ix2 ⟨1024 * (t.val / 2) + r.val, by omega⟩ ⟨1024 * (t.val % 2) + n.val, by omega⟩ : S17408x2048.Idx) := by
    apply Shape.idx_ext₂
    · show win0_4.index t (0 : Fin 2) * 1024 + 1 * r.val = 1024 * (t.val / 2) + r.val
      rw [e8]; omega
    · show win0_4.index t (1 : Fin 2) * 1024 + 1 * n.val = 1024 * (t.val % 2) + n.val
      rw [e9]; omega
  show out0_4 (iblk m c 0 t) (iblk m c 1 t) (iblk m c 2 t) (iblk m c 3 t) (ix2 r n)
    = G m c (((cfg0.win 4).blk t).view.emb (ix2 r n))
  rw [ho]
  unfold out0_4
  rw [View.canon_unit_zero zeros, View.ld_unit_zero zeros, View.ld_unit_zero zeros, View.ld_unit_zero zeros,
    View.ld_unit_zero zeros]
  have hx : ∀ d : Fin 2048, iblk m c 0 t (ix2 r d) = V m c main_arg0 (ix2 ⟨1024 * (t.val / 2) + r.val, by omega⟩ d) := by
    intro d
    show V m c main_arg0 (((cfg0.win 0).blk t).view.emb (ix2 r d)) = _
    congr 1
    apply Shape.idx_ext₂
    · show win0_0.index t (0 : Fin 2) * 1024 + 1 * r.val = 1024 * (t.val / 2) + r.val
      rw [e0]; omega
    · show win0_0.index t (1 : Fin 2) * 2048 + 1 * d.val = d.val
      rw [e1]; omega
  have hw : ∀ d : Fin 2048, iblk m c 1 t (ix2 d n) = V m c main_v9 (ix2 d ⟨1024 * (t.val % 2) + n.val, by omega⟩) := by
    intro d
    show V m c main_v9 (((cfg0.win 1).blk t).view.emb (ix2 d n)) = _
    congr 1
    apply Shape.idx_ext₂
    · show win0_1.index t (0 : Fin 2) * 2048 + 1 * d.val = d.val
      rw [e2]; omega
    · show win0_1.index t (1 : Fin 2) * 1024 + 1 * n.val = 1024 * (t.val % 2) + n.val
      rw [e3]; omega
  have hp : ∀ d : Fin 256, iblk m c 2 t (ix2 r d) = V m c main_v10 (ix2 ⟨1024 * (t.val / 2) + r.val, by omega⟩ d) := by
    intro d
    show V m c main_v10 (((cfg0.win 2).blk t).view.emb (ix2 r d)) = _
    congr 1
    apply Shape.idx_ext₂
    · show win0_2.index t (0 : Fin 2) * 1024 + 1 * r.val = 1024 * (t.val / 2) + r.val
      rw [e4]; omega
    · show win0_2.index t (1 : Fin 2) * 256 + 1 * d.val = d.val
      rw [e5]; omega
  have hu : ∀ d : Fin 256, iblk m c 3 t (ix2 d n) = V m c main_v13 (ix2 d ⟨1024 * (t.val % 2) + n.val, by omega⟩) := by
    intro d
    show V m c main_v13 (((cfg0.win 3).blk t).view.emb (ix2 d n)) = _
    congr 1
    apply Shape.idx_ext₂
    · show win0_3.index t (0 : Fin 2) * 256 + 1 * d.val = d.val
      rw [e6]; omega
    · show win0_3.index t (1 : Fin 2) * 1024 + 1 * n.val = 1024 * (t.val % 2) + n.val
      rw [e7]; omega
  exact stored_rows _ _ _ _ _ _ _ _ _ r n ⟨1024 * (t.val / 2) + r.val, by omega⟩ ⟨1024 * (t.val % 2) + n.val, by omega⟩
    (fun d => (hx d).trans (congrFun (V_main_arg0 m c) _)) (fun d => (hw d).trans (gate_at m c d _))
    (fun d => (hp d).trans (rows_at m c _ d)) (fun d => (hu d).trans (proj_at m c d _))

/-- An index is in point `t`'s block iff each coordinate is in the block's range. -/
theorem mem_block (t : Fin cfg0.N) (i : S17408x2048.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v14).slice (win0_4.rect t)).set ↔ _
  rw [View.set_slice_whole, Rect.mem_set_unit]
  exact Iff.rfl

/-- The blocks tile the array, so it ends as `G`. -/
theorem final (c : Dev nD) : (dats m 0 c).arrAt 4 cfg0.N = G m c :=
  (dats m 0 c).arrAt_eq_of_cover 4 _ (fun t _ => flushed_eq m c t) (fun i => by
    have h0 : (i 0).val < 17408 := (i 0).isLt
    have h1 : (i 1).val < 2048 := (i 1).isLt
    let t : Fin cfg0.N := ⟨2 * ((i 0).val / 1024) + (i 1).val / 1024, by rw [show cfg0.N = 34 from N_0]; omega⟩
    obtain ⟨-, -, -, -, -, -, -, -, e8, e9, hf⟩ := place t
    refine ⟨t, hf, ?_⟩
    rw [mem_block]
    have et0 : t.val / 2 = (i 0).val / 1024 := by show (2 * ((i 0).val / 1024) + (i 1).val / 1024) / 2 = _; omega
    have et1 : t.val % 2 = (i 1).val / 1024 := by show (2 * ((i 0).val / 1024) + (i 1).val / 1024) % 2 = _; omega
    intro a
    match a with
    | ⟨0, _⟩ =>
      show win0_4.index t (0 : Fin 2) * 1024 ≤ (i 0).val ∧ (i 0).val < win0_4.index t (0 : Fin 2) * 1024 + 1024
      rw [e8, et0]; omega
    | ⟨1, _⟩ =>
      show win0_4.index t (1 : Fin 2) * 1024 ≤ (i 1).val ∧ (i 1).val < win0_4.index t (1 : Fin 2) * 1024 + 1024
      rw [e9, et1]; omega)

end Cert.Embedding

namespace Cert.Embedding

open Cert.Reference5Ideal Cert.Reference5Ideal.Gen

/-- The reference's last lines, of the slices that they read. -/
theorem reference_of (x : FVec Ideal S17408x2048 .bf16) (pp : FVec Ideal S8x2048x256 .f32) (ps : FVec Ideal S128x8x256 .f32)
    (w : FVec Ideal S2048x2048 .f32) (u : FVec Ideal S256x2048 .f32) (r : Fin 17408) (n : Fin 2048) :
    (mulf (Host.divf (broadcastInDim S17408x2048 ![] bcast_S_S17408x2048 (constant S_ .f32 0x3F800000#32)) (addf (broadcastInDim S17408x2048 ![] bcast_S_S17408x2048 (constant S_ .f32 0x3F800000#32)) (Host.exp (Host.negf (Host.dotGeneral dot_S17408x2048_S2048x2048_S17408x2048_1_0_0_1_n_n none (extf .f32 x bitsLt_bf16_f32) w))))) (concatenate S17408x2048 0 [⟨S16384x2048, (shapeCast _ (Host.dotGeneral dot_S8x2048x256_S256x2048_S8x2048x2048_2_0_01_1_n_n none pp u) shapeCasts_S8x2048x2048_S16384x2048)⟩, ⟨S1024x2048, (shapeCast _ (Host.dotGeneral dot_S128x8x256_S256x2048_S128x8x2048_2_0_01_1_n_n none ps u) shapeCasts_S128x8x2048_S1024x2048)⟩] concatenates_S16384x2048_S1024x2048_S17408x2048_d0) : FVec Ideal S17408x2048 .f32) (ix2 r n)
      = Ideal.div 1 (1 + Ideal.exp (-∑ d : Fin 2048, x (ix2 r d) * w (ix2 d n)))
        * (if h : r.val < 16384 then
            ∑ d : Fin 256, pp (ix3 ⟨r.val / 2048, by omega⟩ ⟨r.val % 2048, Nat.mod_lt _ (by decide)⟩ d) * u (ix2 d n)
          else ∑ d : Fin 256, ps (ix3 ⟨(r.val - 16384) / 8, by omega⟩ ⟨(r.val - 16384) % 8, Nat.mod_lt _ (by decide)⟩ d)
            * u (ix2 d n)) := by
  pointwise

/-- The same of the arguments themselves. -/
theorem reference_gated (x : FVec Ideal S17408x2048 .bf16) (pp : FVec Ideal S2x8x2048x256 .f32) (ps : FVec Ideal S2x128x8x256 .f32)
    (w : FVec Ideal S2x2048x2048 .f32) (u : FVec Ideal S2x256x2048 .f32) (pp' : FVec Ideal S8x2048x256 .f32)
    (ps' : FVec Ideal S128x8x256 .f32) (w' : FVec Ideal S2048x2048 .f32) (u' : FVec Ideal S256x2048 .f32)
    (hpp : ∀ b t d, pp' (ix3 b t d) = pp (ix4 0 b t d)) (hps : ∀ b t d, ps' (ix3 b t d) = ps (ix4 0 b t d))
    (hw : ∀ d n, w' (ix2 d n) = w (ix3 0 d n)) (hu : ∀ d n, u' (ix2 d n) = u (ix3 0 d n)) (r : Fin 17408) (n : Fin 2048) :
    Ideal.div 1 (1 + Ideal.exp (-∑ d : Fin 2048, x (ix2 r d) * w' (ix2 d n)))
        * (if h : r.val < 16384 then
            ∑ d : Fin 256, pp' (ix3 ⟨r.val / 2048, by omega⟩ ⟨r.val % 2048, Nat.mod_lt _ (by decide)⟩ d) * u' (ix2 d n)
          else ∑ d : Fin 256, ps' (ix3 ⟨(r.val - 16384) / 8, by omega⟩ ⟨(r.val - 16384) % 8, Nat.mod_lt _ (by decide)⟩ d)
            * u' (ix2 d n)) = gated x pp ps w u r n := by
  unfold gated row
  simp only [hw, hu, hpp, hps]
  by_cases h : r.val < 16384
  · simp only [dif_pos h]
  · simp only [dif_neg h]

/-- The reference runs to the gated embedding's array. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = (fun i => gated (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (funext fun i => by
      obtain ⟨a, b, rfl⟩ : ∃ (a : Fin 17408) (b : Fin 2048), i = ix2 a b := ⟨i 0, i 1, eq_ix2 i⟩
      refine (reference_of _ _ _ _ _ a b).trans ?_
      exact reference_gated _ _ _ _ _ _ _ _ _ (prompt_slice _) (sample_slice _) (gate_slice _) (proj_slice _) a b), (h c).2⟩)
    (Value.run m ρ)

end Cert.Embedding

end
-- ==== Proof.OutProjection.lean ====
/-
  The output projection with its residual connection and normalization, over the extended reals: kernel and reference both
  return every token's normalized row, once for each of the two formats.
-/
module

public import proofs.«01_k».proof.Proof.Gen.Kernel6Ideal.Value
public import proofs.«01_k».proof.Proof.Gen.Reference6Ideal.Run
public import Idealize.ShloMosaic.Lib.Pointwise

@[expose] public section

set_option maxRecDepth 16384

noncomputable section

open Idealize.ShloMosaic Idealize.ShloMosaic.TcCoe Idealize.SL.Sem

namespace Cert.OutProjection

open Idealize.ShloMosaic.Pipeline (Dat)
open Cert.Kernel6Ideal Cert.Kernel6Ideal.Gen

variable (m : (ℓ : Loc nD τ sig) → Buf (Elt Ideal) ℓ)

/-- A row before its normalization: the scaled residual plus the projected row. -/
def residual {W : ℕ} (y x : Fin W → EReal) (w : Fin W → Fin W → EReal) (n : Fin W) : EReal :=
  Ideal.ofBits .f32 0x3FB504F3#32 * y n + ∑ d : Fin W, x d * w d n

/-- A row's mean, over its 2048 columns. -/
def mean {W : ℕ} (z : Fin W → EReal) : EReal := Ideal.div (∑ n, z n) (Ideal.ofBits .f32 0x45000000#32)

/-- A normalized row, scaled by `g` and shifted by `b`. -/
def normal {W : ℕ} (z g b : Fin W → EReal) (n : Fin W) : EReal :=
  (z n - mean z) * Ideal.rsqrt (mean (fun k => (z k - mean z) * (z k - mean z)) + Ideal.ofBits .f32 0x3727C5AC#32) * g n + b n

/-- The result at token `r` and column `n`. -/
def out (x : FVec Ideal S17408x2048 .bf16) (w : FVec Ideal S1x2048x2048 .f32) (y : FVec Ideal S17408x2048 .f32)
    (g b : FVec Ideal S2x2048 .f32) (r : Fin 17408) (n : Fin 2048) : EReal :=
  normal (residual (fun d => y (ix2 r d)) (fun d => x (ix2 r d)) (fun d k => w (ix3 0 d k)))
    (fun k => g (ix2 0 k)) (fun k => b (ix2 0 k)) n

/-- One stored block, of the five loaded ones. -/
theorem stored_at (y : Vec Ideal S256x2048 .f32) (x : Vec Ideal S256x2048 .bf16) (w : Vec Ideal S2048x2048 .bf16)
    (g b : Vec Ideal S1x2048 .f32) (r : Fin 256) (n : Fin 2048) :
    k0_pay1 y x w g b (ix2 r n) = normal (residual (fun d => y (ix2 r d)) (fun d => x (ix2 r d)) (fun d k => w (ix2 d k)))
      (fun k => g (ix2 0 k)) (fun k => b (ix2 0 k)) n := by
  pointwise [k0_pay1]
  rfl

/-- The first layer's row of a pair of rows. -/
theorem vector_at (g : FVec Ideal S2x2048 .f32) (n : Fin 2048) :
    (shapeCast S1x2048 (shapeCast S2048 (extractStridedSlice S1x2048 ![0, 0] g slices_S2x2048_S1x2048_0_0)
      shapeCasts_S1x2048_S2048) shapeCasts_S2048_S1x2048 : FVec Ideal S1x2048 .f32) (ix2 0 n) = g (ix2 0 n) := by
  pointwise

theorem cast_at (w : FVec Ideal S1x2048x2048 .f32) (d n : Fin 2048) :
    truncf (F := Ideal) .bf16 (shapeCast S2048x2048 w shapeCasts_S1x2048x2048_S2048x2048) bitsLt_bf16_f32 (ix2 d n)
      = w (ix3 0 d n) := by pointwise

theorem V_weights (c : Dev nD) : V m c main_v1 = truncf (F := Ideal) .bf16 (shapeCast S2048x2048
    (m ((c : Thread nD τ).loc main_arg1)) shapeCasts_S1x2048x2048_S2048x2048) bitsLt_bf16_f32 := by
  unfold V hostOps0; after_results; rfl

theorem V_scale (c : Dev nD) : V m c main_v6 = (shapeCast S1x2048 (shapeCast S2048 (extractStridedSlice S1x2048 ![0, 0]
    (m ((c : Thread nD τ).loc main_arg3)) slices_S2x2048_S1x2048_0_0)
      shapeCasts_S1x2048_S2048) shapeCasts_S2048_S1x2048 : FVec Ideal S1x2048 .f32) := by
  unfold V hostOps0; after_results; rfl

theorem V_shift (c : Dev nD) : V m c main_v7 = (shapeCast S1x2048 (shapeCast S2048 (extractStridedSlice S1x2048 ![0, 0]
    (m ((c : Thread nD τ).loc main_arg4)) slices_S2x2048_S1x2048_0_0)
      shapeCasts_S1x2048_S2048) shapeCasts_S2048_S1x2048 : FVec Ideal S1x2048 .f32) := by
  unfold V hostOps0; after_results; rfl

/-- Point `t` takes the rows of block `t`. -/
theorem place : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- … and stores both results there. -/
theorem place_out : ∀ t : Fin cfg0.N, win0_5.index t (0 : Fin 2) = t.val ∧ win0_5.index t (1 : Fin 2) = 0
    ∧ win0_6.index t (0 : Fin 2) = t.val ∧ win0_6.index t (1 : Fin 2) = 0
    ∧ win0_5.flush t = true ∧ win0_6.flush t = true :=
  (by decide +kernel : ∀ t : Fin grid0.N, _)

theorem points (t : Fin cfg0.N) : t.val < 68 := lt_of_lt_of_eq t.isLt (show cfg0.N = 68 from N_0)

theorem zeros : (![0, 0] : Fin 2 → Nat) = fun _ => 0 := funext fun a => by fin_cases a <;> rfl

/-- The array of both results. -/
def whole (c : Dev nD) : S17408x2048.Idx → EReal := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- A stored element, of loaded blocks that hold rows of tokens. -/
theorem stored_rows (x : FVec Ideal S17408x2048 .bf16) (w : FVec Ideal S1x2048x2048 .f32) (y : FVec Ideal S17408x2048 .f32)
    (g b : FVec Ideal S2x2048 .f32) (y' : Vec Ideal S256x2048 .f32) (x' : Vec Ideal S256x2048 .bf16)
    (w' : Vec Ideal S2048x2048 .bf16) (g' b' : Vec Ideal S1x2048 .f32) (r : Fin 256) (n : Fin 2048) (R : Fin 17408)
    (hx : ∀ d : Fin 2048, x' (ix2 r d) = x (ix2 R d)) (hw : ∀ d k : Fin 2048, w' (ix2 d k) = w (ix3 0 d k))
    (hy : ∀ d : Fin 2048, y' (ix2 r d) = y (ix2 R d)) (hg : ∀ k : Fin 2048, g' (ix2 0 k) = g (ix2 0 k))
    (hb : ∀ k : Fin 2048, b' (ix2 0 k) = b (ix2 0 k)) : k0_pay1 y' x' w' g' b' (ix2 r n) = out x w y g b R n := by
  rw [stored_at, out, funext hx, funext hy, funext hg, funext hb, funext fun d => funext (hw d)]

/-- The block that point `t` stores is its part of the array. -/
theorem block_at (c : Dev nD) (t : Fin cfg0.N) (r : Fin 256) (n : Fin 2048) (h : 256 * t.val + r.val < 17408) :
    k0_pay1 (iblk m c 2 t) (iblk m c 0 t) (iblk m c 1 t) (iblk m c 3 t) (iblk m c 4 t) (ix2 r n)
      = whole m c (ix2 ⟨256 * t.val + r.val, h⟩ n) := by
  obtain ⟨e0, e1, e2, e3, e4, e5, e6, e7, e8, e9⟩ := place t
  have hx : ∀ d : Fin 2048, iblk m c 0 t (ix2 r d) = V m c main_arg0 (ix2 ⟨256 * t.val + r.val, h⟩ d) := by
    intro d
    show V m c main_arg0 (((cfg0.win 0).blk t).view.emb (ix2 r d)) = _
    congr 1
    apply Shape.idx_ext₂
    · show win0_0.index t (0 : Fin 2) * 256 + 1 * r.val = 256 * t.val + r.val
      rw [e0]; omega
    · show win0_0.index t (1 : Fin 2) * 2048 + 1 * d.val = d.val
      rw [e1]; omega
  have hw : ∀ d k : Fin 2048, iblk m c 1 t (ix2 d k) = V m c main_v1 (ix2 d k) := by
    intro d k
    show V m c main_v1 (((cfg0.win 1).blk t).view.emb (ix2 d k)) = _
    congr 1
    apply Shape.idx_ext₂
    · show win0_1.index t (0 : Fin 2) * 2048 + 1 * d.val = d.val
      rw [e2]; omega
    · show win0_1.index t (1 : Fin 2) * 2048 + 1 * k.val = k.val
      rw [e3]; omega
  have hy : ∀ d : Fin 2048, iblk m c 2 t (ix2 r d) = V m c main_arg2 (ix2 ⟨256 * t.val + r.val, h⟩ d) := by
    intro d
    show V m c main_arg2 (((cfg0.win 2).blk t).view.emb (ix2 r d)) = _
    congr 1
    apply Shape.idx_ext₂
    · show win0_2.index t (0 : Fin 2) * 256 + 1 * r.val = 256 * t.val + r.val
      rw [e4]; omega
    · show win0_2.index t (1 : Fin 2) * 2048 + 1 * d.val = d.val
      rw [e5]; omega
  have hg : ∀ k : Fin 2048, iblk m c 3 t (ix2 0 k) = V m c main_v6 (ix2 0 k) := by
    intro k
    show V m c main_v6 (((cfg0.win 3).blk t).view.emb (ix2 0 k)) = _
    congr 1
    apply Shape.idx_ext₂
    · show win0_3.index t (0 : Fin 2) * 1 + 1 * 0 = 0
      rw [e6]
    · show win0_3.index t (1 : Fin 2) * 2048 + 1 * k.val = k.val
      rw [e7]; omega
  have hb : ∀ k : Fin 2048, iblk m c 4 t (ix2 0 k) = V m c main_v7 (ix2 0 k) := by
    intro k
    show V m c main_v7 (((cfg0.win 4).blk t).view.emb (ix2 0 k)) = _
    congr 1
    apply Shape.idx_ext₂
    · show win0_4.index t (0 : Fin 2) * 1 + 1 * 0 = 0
      rw [e8]
    · show win0_4.index t (1 : Fin 2) * 2048 + 1 * k.val = k.val
      rw [e9]; omega
  exact stored_rows _ _ _ _ _ _ _ _ _ _ r n ⟨256 * t.val + r.val, h⟩
    (fun d => (hx d).trans (congrFun (V_main_arg0 m c) _))
    (fun d k => (hw d k).trans ((congrFun (V_weights m c) _).trans (cast_at _ d k)))
    (fun d => (hy d).trans (congrFun (V_main_arg2 m c) _))
    (fun k => (hg k).trans ((congrFun (V_scale m c) _).trans (vector_at _ k)))
    (fun k => (hb k).trans ((congrFun (V_shift m c) _).trans (vector_at _ k)))

/-- Result 0 as the region leaves it. -/
def G5 (c : Dev nD) : Buf (Elt Ideal) ((c : Thread nD τ).loc main_v8_0) := whole m c

theorem flushed5_eq (c : Dev nD) (t : Fin cfg0.N) :
    (dats m 0 c).flushed 5 t = ((cfg0.win 5).blk t).view.read (Elt Ideal) (G5 m c) := by
  rw [Value.flushed5]
  obtain ⟨e0, e1, e2, e3, -, -⟩ := place_out t
  have ht := points t
  funext i
  obtain ⟨r, n, rfl⟩ : ∃ (r : Fin 256) (n : Fin 2048), i = ix2 r n := ⟨i 0, i 1, eq_ix2 i⟩
  have ho : ((cfg0.win 5).blk t).view.emb (ix2 r n) = (ix2 ⟨256 * t.val + r.val, by omega⟩ n : S17408x2048.Idx) := by
    apply Shape.idx_ext₂
    · show win0_5.index t (0 : Fin 2) * 256 + 1 * r.val = 256 * t.val + r.val
      rw [e0]; omega
    · show win0_5.index t (1 : Fin 2) * 2048 + 1 * n.val = n.val
      rw [e1]; omega
  show out0_5 (iblk m c 0 t) (iblk m c 1 t) (iblk m c 2 t) (iblk m c 3 t) (iblk m c 4 t) (ix2 r n)
    = G5 m c (((cfg0.win 5).blk t).view.emb (ix2 r n))
  rw [ho]
  unfold out0_5
  rw [View.canon_unit_zero zeros]
  simp only [View.ld_unit_zero (S := S256x2048) zeros, View.ld_unit_zero (S := S2048x2048) zeros,
    View.ld_unit_zero (S := S1x2048) zeros]
  exact block_at m c t r n (by omega)

/-- An index is in point `t`'s block of result 0 iff each coordinate is in the block's range. -/
theorem mem_block5 (t : Fin cfg0.N) (i : S17408x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v8_0).slice (win0_5.rect t)).set ↔ _
  rw [View.set_slice_whole, Rect.mem_set_unit]
  exact Iff.rfl

/-- The blocks tile result 0. -/
theorem final5 (c : Dev nD) : (dats m 0 c).arrAt 5 cfg0.N = G5 m c :=
  (dats m 0 c).arrAt_eq_of_cover 5 _ (fun t _ => flushed5_eq m c t) (fun i => by
    have h0 : (i 0).val < 17408 := (i 0).isLt
    have h1 : (i 1).val < 2048 := (i 1).isLt
    let t : Fin cfg0.N := ⟨(i 0).val / 256, by rw [show cfg0.N = 68 from N_0]; omega⟩
    obtain ⟨e0, e1, e2, e3, f5, f6⟩ := place_out t
    refine ⟨t, f5, ?_⟩
    rw [mem_block5]
    have et : t.val = (i 0).val / 256 := rfl
    intro a
    match a with
    | ⟨0, _⟩ =>
      show win0_5.index t (0 : Fin 2) * 256 ≤ (i 0).val ∧ (i 0).val < win0_5.index t (0 : Fin 2) * 256 + 256
      rw [e0, et]; omega
    | ⟨1, _⟩ =>
      show win0_5.index t (1 : Fin 2) * 2048 ≤ (i 1).val ∧ (i 1).val < win0_5.index t (1 : Fin 2) * 2048 + 2048
      rw [e1]; omega)

/-- Result 1 as the region leaves it. -/
def G6 (c : Dev nD) : Buf (Elt Ideal) ((c : Thread nD τ).loc main_v8_1) := whole m c

theorem flushed6_eq (c : Dev nD) (t : Fin cfg0.N) :
    (dats m 0 c).flushed 6 t = ((cfg0.win 6).blk t).view.read (Elt Ideal) (G6 m c) := by
  rw [Value.flushed6]
  obtain ⟨e0, e1, e2, e3, -, -⟩ := place_out t
  have ht := points t
  funext i
  obtain ⟨r, n, rfl⟩ : ∃ (r : Fin 256) (n : Fin 2048), i = ix2 r n := ⟨i 0, i 1, eq_ix2 i⟩
  have ho : ((cfg0.win 6).blk t).view.emb (ix2 r n) = (ix2 ⟨256 * t.val + r.val, by omega⟩ n : S17408x2048.Idx) := by
    apply Shape.idx_ext₂
    · show win0_6.index t (0 : Fin 2) * 256 + 1 * r.val = 256 * t.val + r.val
      rw [e2]; omega
    · show win0_6.index t (1 : Fin 2) * 2048 + 1 * n.val = n.val
      rw [e3]; omega
  show out0_6 (iblk m c 0 t) (iblk m c 1 t) (iblk m c 2 t) (iblk m c 3 t) (iblk m c 4 t) (ix2 r n)
    = G6 m c (((cfg0.win 6).blk t).view.emb (ix2 r n))
  rw [ho]
  unfold out0_6
  rw [View.canon_unit_zero zeros]
  simp only [View.ld_unit_zero (S := S256x2048) zeros, View.ld_unit_zero (S := S2048x2048) zeros,
    View.ld_unit_zero (S := S1x2048) zeros]
  exact block_at m c t r n (by omega)

/-- An index is in point `t`'s block of result 1 iff each coordinate is in the block's range. -/
theorem mem_block6 (t : Fin cfg0.N) (i : S17408x2048.Idx) :
    i ∈ ((cfg0.win 6).blk t).view.set ↔ ∀ a : Fin 2, win0_6.index t a * S256x2048.size a ≤ (i a).val
      ∧ (i a).val < win0_6.index t a * S256x2048.size a + S256x2048.size a := by
  show i ∈ ((View.whole main_v8_1).slice (win0_6.rect t)).set ↔ _
  rw [View.set_slice_whole, Rect.mem_set_unit]
  exact Iff.rfl

/-- The blocks tile result 1. -/
theorem final6 (c : Dev nD) : (dats m 0 c).arrAt 6 cfg0.N = G6 m c :=
  (dats m 0 c).arrAt_eq_of_cover 6 _ (fun t _ => flushed6_eq m c t) (fun i => by
    have h0 : (i 0).val < 17408 := (i 0).isLt
    have h1 : (i 1).val < 2048 := (i 1).isLt
    let t : Fin cfg0.N := ⟨(i 0).val / 256, by rw [show cfg0.N = 68 from N_0]; omega⟩
    obtain ⟨e0, e1, e2, e3, f5, f6⟩ := place_out t
    refine ⟨t, f6, ?_⟩
    rw [mem_block6]
    have et : t.val = (i 0).val / 256 := rfl
    intro a
    match a with
    | ⟨0, _⟩ =>
      show win0_6.index t (0 : Fin 2) * 256 ≤ (i 0).val ∧ (i 0).val < win0_6.index t (0 : Fin 2) * 256 + 256
      rw [e2, et]; omega
    | ⟨1, _⟩ =>
      show win0_6.index t (1 : Fin 2) * 2048 ≤ (i 1).val ∧ (i 1).val < win0_6.index t (1 : Fin 2) * 2048 + 2048
      rw [e3]; omega)

end Cert.OutProjection

namespace Cert.OutProjection

open Cert.Reference6Ideal Cert.Reference6Ideal.Gen

set_option maxHeartbeats 1000000 in
/-- The reference's term is the normalized row. -/
theorem reference_at (x : FVec Ideal S17408x2048 .bf16) (w : FVec Ideal S1x2048x2048 .f32) (y : FVec Ideal S17408x2048 .f32)
    (g b : FVec Ideal S2x2048 .f32) (r : Fin 17408) (n : Fin 2048) :
    (addf (mulf (mulf (subf (addf (mulf (broadcastInDim S17408x2048 ![] bcast_S_S17408x2048 (constant S_ .f32 0x3FB504F3#32)) y) (Host.dotGeneral dot_S17408x2048_S2048x2048_S17408x2048_1_0_0_1_n_n none (extf .f32 x bitsLt_bf16_f32) (shapeCast _ w shapeCasts_S1x2048x2048_S2048x2048))) (broadcastInDim S17408x2048 ![0, 1] bcast_S17408x1_S17408x2048_0_1 (Host.divf (broadcastInDim S17408x1 ![0] bcast_S17408_S17408x1_0 (Host.reduceAdd (addf (mulf (broadcastInDim S17408x2048 ![] bcast_S_S17408x2048 (constant S_ .f32 0x3FB504F3#32)) y) (Host.dotGeneral dot_S17408x2048_S2048x2048_S17408x2048_1_0_0_1_n_n none (extf .f32 x bitsLt_bf16_f32) (shapeCast _ w shapeCasts_S1x2048x2048_S2048x2048))) (constant S_ .f32 0x00000000#32) reducesTo_S17408x2048_S17408_d1 h_S_)) (broadcastInDim S17408x1 ![] bcast_S_S17408x1 (constant S_ .f32 0x45000000#32))))) (broadcastInDim S17408x2048 ![0, 1] bcast_S17408x1_S17408x2048_0_1 (Host.rsqrt (addf (Host.divf (broadcastInDim S17408x1 ![0] bcast_S17408_S17408x1_0 (Host.reduceAdd (mulf (subf (addf (mulf (broadcastInDim S17408x2048 ![] bcast_S_S17408x2048 (constant S_ .f32 0x3FB504F3#32)) y) (Host.dotGeneral dot_S17408x2048_S2048x2048_S17408x2048_1_0_0_1_n_n none (extf .f32 x bitsLt_bf16_f32) (shapeCast _ w shapeCasts_S1x2048x2048_S2048x2048))) (broadcastInDim S17408x2048 ![0, 1] bcast_S17408x1_S17408x2048_0_1 (Host.divf (broadcastInDim S17408x1 ![0] bcast_S17408_S17408x1_0 (Host.reduceAdd (addf (mulf (broadcastInDim S17408x2048 ![] bcast_S_S17408x2048 (constant S_ .f32 0x3FB504F3#32)) y) (Host.dotGeneral dot_S17408x2048_S2048x2048_S17408x2048_1_0_0_1_n_n none (extf .f32 x bitsLt_bf16_f32) (shapeCast _ w shapeCasts_S1x2048x2048_S2048x2048))) (constant S_ .f32 0x00000000#32) reducesTo_S17408x2048_S17408_d1 h_S_)) (broadcastInDim S17408x1 ![] bcast_S_S17408x1 (constant S_ .f32 0x45000000#32))))) (subf (addf (mulf (broadcastInDim S17408x2048 ![] bcast_S_S17408x2048 (constant S_ .f32 0x3FB504F3#32)) y) (Host.dotGeneral dot_S17408x2048_S2048x2048_S17408x2048_1_0_0_1_n_n none (extf .f32 x bitsLt_bf16_f32) (shapeCast _ w shapeCasts_S1x2048x2048_S2048x2048))) (broadcastInDim S17408x2048 ![0, 1] bcast_S17408x1_S17408x2048_0_1 (Host.divf (broadcastInDim S17408x1 ![0] bcast_S17408_S17408x1_0 (Host.reduceAdd (addf (mulf (broadcastInDim S17408x2048 ![] bcast_S_S17408x2048 (constant S_ .f32 0x3FB504F3#32)) y) (Host.dotGeneral dot_S17408x2048_S2048x2048_S17408x2048_1_0_0_1_n_n none (extf .f32 x bitsLt_bf16_f32) (shapeCast _ w shapeCasts_S1x2048x2048_S2048x2048))) (constant S_ .f32 0x00000000#32) reducesTo_S17408x2048_S17408_d1 h_S_)) (broadcastInDim S17408x1 ![] bcast_S_S17408x1 (constant S_ .f32 0x45000000#32)))))) (constant S_ .f32 0x00000000#32) reducesTo_S17408x2048_S17408_d1 h_S_)) (broadcastInDim S17408x1 ![] bcast_S_S17408x1 (constant S_ .f32 0x45000000#32))) (broadcastInDim S17408x1 ![] bcast_S_S17408x1 (constant S_ .f32 0x3727C5AC#32)))))) (broadcastInDim S17408x2048 ![0, 1] bcast_S1x2048_S17408x2048_0_1 (broadcastInDim S1x2048 ![1] bcast_S2048_S1x2048_1 (shapeCast _ (extractStridedSlice S1x2048 ![0, 0] g slices_S2x2048_S1x2048_0_0) shapeCasts_S1x2048_S2048)))) (broadcastInDim S17408x2048 ![0, 1] bcast_S1x2048_S17408x2048_0_1 (broadcastInDim S1x2048 ![1] bcast_S2048_S1x2048_1 (shapeCast _ (extractStridedSlice S1x2048 ![0, 0] b slices_S2x2048_S1x2048_0_0) shapeCasts_S1x2048_S2048))) : FVec Ideal S17408x2048 .f32) (ix2 r n) = out x w y g b r n := by
  pointwise
  rfl

/-- Both of the reference's results, as one array. -/
def result (m : (ℓ : Loc nD τ sig) → Buf (Elt Ideal) ℓ) (c : Dev nD) : S17408x2048.Idx → EReal := fun i =>
  out (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (i 0) (i 1)

theorem result_eq (m : (ℓ : Loc nD τ sig) → Buf (Elt Ideal) ℓ) (c : Dev nD) : Value.res_main_v33 m c = result m c :=
  funext fun i => by
    obtain ⟨a, b, rfl⟩ : ∃ (a : Fin 17408) (b : Fin 2048), i = ix2 a b := ⟨i 0, i 1, eq_ix2 i⟩
    exact reference_at _ _ _ _ _ a b

theorem rounded_eq (m : (ℓ : Loc nD τ sig) → Buf (Elt Ideal) ℓ) (c : Dev nD) : Value.res_main_v34 m c = result m c :=
  (show Value.res_main_v34 m c = Value.res_main_v33 m c from rfl).trans (result_eq m c)

/-- The reference runs to the normalized rows. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = result m c
      ∧ r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq m c), (h c).2.1.trans (rounded_eq m c), (h c).2.2⟩)
    (Value.run m ρ)

end Cert.OutProjection

end
-- ==== Proof.SumNorm.lean ====
/-
  The second normalization of the even layer, of the scaled rows plus the feed-forward rows plus the per-layer rows, over
  the extended reals: kernel and reference both return every token's normalized row, once for each of the two formats.
-/
module

public import proofs.«01_k».proof.Proof.Gen.Kernel7Ideal.Value
public import proofs.«01_k».proof.Proof.Gen.Reference7Ideal.Run
public import proofs.«01_k».proof.Proof.OutProjection

@[expose] public section

set_option maxRecDepth 16384

noncomputable section

open Idealize.ShloMosaic Idealize.ShloMosaic.TcCoe Idealize.SL.Sem

namespace Cert.SumNorm

open Idealize.ShloMosaic.Pipeline (Dat)
open Cert.OutProjection (mean normal)
open Cert.Kernel7Ideal Cert.Kernel7Ideal.Gen

variable (m : (ℓ : Loc nD τ sig) → Buf (Elt Ideal) ℓ)

/-- A row before its normalization: the scaled row plus the two others. -/
def total {W : ℕ} (h f e : Fin W → EReal) (n : Fin W) : EReal := Ideal.ofBits .f32 0x3FB504F3#32 * h n + f n + e n

/-- The result at token `r` and column `n`. -/
def out (h f e : FVec Ideal S17408x2048 .f32) (g b : FVec Ideal S2x2048 .f32) (r : Fin 17408) (n : Fin 2048) : EReal :=
  normal (total (fun d => h (ix2 r d)) (fun d => f (ix2 r d)) (fun d => e (ix2 r d)))
    (fun k => g (ix2 0 k)) (fun k => b (ix2 0 k)) n

/-- One stored block, of the five loaded ones. -/
theorem stored_at (h f e : Vec Ideal S256x2048 .f32) (g b : Vec Ideal S1x2048 .f32) (r : Fin 256) (n : Fin 2048) :
    k0_pay1 h f e g b (ix2 r n) = normal (total (fun d => h (ix2 r d)) (fun d => f (ix2 r d)) (fun d => e (ix2 r d)))
      (fun k => g (ix2 0 k)) (fun k => b (ix2 0 k)) n := by
  pointwise [k0_pay1]
  rfl

/-- The first layer's row of a pair of rows. -/
theorem vector_at (g : FVec Ideal S2x2048 .f32) (n : Fin 2048) :
    (shapeCast S1x2048 (shapeCast S2048 (extractStridedSlice S1x2048 ![0, 0] g slices_S2x2048_S1x2048_0_0)
      shapeCasts_S1x2048_S2048) shapeCasts_S2048_S1x2048 : FVec Ideal S1x2048 .f32) (ix2 0 n) = g (ix2 0 n) := by
  pointwise

theorem V_scale (c : Dev nD) : V m c main_v4 = (shapeCast S1x2048 (shapeCast S2048 (extractStridedSlice S1x2048 ![0, 0]
    (m ((c : Thread nD τ).loc main_arg3)) slices_S2x2048_S1x2048_0_0)
      shapeCasts_S1x2048_S2048) shapeCasts_S2048_S1x2048 : FVec Ideal S1x2048 .f32) := by
  unfold V hostOps0; after_results; rfl

theorem V_shift (c : Dev nD) : V m c main_v5 = (shapeCast S1x2048 (shapeCast S2048 (extractStridedSlice S1x2048 ![0, 0]
    (m ((c : Thread nD τ).loc main_arg4)) slices_S2x2048_S1x2048_0_0)
      shapeCasts_S1x2048_S2048) shapeCasts_S2048_S1x2048 : FVec Ideal S1x2048 .f32) := by
  unfold V hostOps0; after_results; rfl

/-- Point `t` takes the rows of block `t`. -/
theorem place : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- … and stores both results there. -/
theorem place_out : ∀ t : Fin cfg0.N, win0_5.index t (0 : Fin 2) = t.val ∧ win0_5.index t (1 : Fin 2) = 0
    ∧ win0_6.index t (0 : Fin 2) = t.val ∧ win0_6.index t (1 : Fin 2) = 0
    ∧ win0_5.flush t = true ∧ win0_6.flush t = true :=
  (by decide +kernel : ∀ t : Fin grid0.N, _)

theorem points (t : Fin cfg0.N) : t.val < 68 := lt_of_lt_of_eq t.isLt (show cfg0.N = 68 from N_0)

theorem zeros : (![0, 0] : Fin 2 → Nat) = fun _ => 0 := funext fun a => by fin_cases a <;> rfl

/-- The array of both results. -/
def whole (c : Dev nD) : S17408x2048.Idx → EReal := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- A stored element, of loaded blocks that hold rows of tokens. -/
theorem stored_rows (h f e : FVec Ideal S17408x2048 .f32) (g b : FVec Ideal S2x2048 .f32)
    (h' f' e' : Vec Ideal S256x2048 .f32) (g' b' : Vec Ideal S1x2048 .f32) (r : Fin 256) (n : Fin 2048) (R : Fin 17408)
    (hh : ∀ d : Fin 2048, h' (ix2 r d) = h (ix2 R d)) (hf : ∀ d : Fin 2048, f' (ix2 r d) = f (ix2 R d))
    (he : ∀ d : Fin 2048, e' (ix2 r d) = e (ix2 R d)) (hg : ∀ k : Fin 2048, g' (ix2 0 k) = g (ix2 0 k))
    (hb : ∀ k : Fin 2048, b' (ix2 0 k) = b (ix2 0 k)) : k0_pay1 h' f' e' g' b' (ix2 r n) = out h f e g b R n := by
  rw [stored_at, out, funext hh, funext hf, funext he, funext hg, funext hb]

/-- The block that point `t` stores is its part of the array. -/
theorem block_at (c : Dev nD) (t : Fin cfg0.N) (r : Fin 256) (n : Fin 2048) (h : 256 * t.val + r.val < 17408) :
    k0_pay1 (iblk m c 0 t) (iblk m c 1 t) (iblk m c 2 t) (iblk m c 3 t) (iblk m c 4 t) (ix2 r n)
      = whole m c (ix2 ⟨256 * t.val + r.val, h⟩ n) := by
  obtain ⟨e0, e1, e2, e3, e4, e5, e6, e7, e8, e9⟩ := place t
  have hh : ∀ d : Fin 2048, iblk m c 0 t (ix2 r d) = V m c main_arg0 (ix2 ⟨256 * t.val + r.val, h⟩ d) := by
    intro d
    show V m c main_arg0 (((cfg0.win 0).blk t).view.emb (ix2 r d)) = _
    congr 1
    apply Shape.idx_ext₂
    · show win0_0.index t (0 : Fin 2) * 256 + 1 * r.val = 256 * t.val + r.val
      rw [e0]; omega
    · show win0_0.index t (1 : Fin 2) * 2048 + 1 * d.val = d.val
      rw [e1]; omega
  have hf : ∀ d : Fin 2048, iblk m c 1 t (ix2 r d) = V m c main_arg1 (ix2 ⟨256 * t.val + r.val, h⟩ d) := by
    intro d
    show V m c main_arg1 (((cfg0.win 1).blk t).view.emb (ix2 r d)) = _
    congr 1
    apply Shape.idx_ext₂
    · show win0_1.index t (0 : Fin 2) * 256 + 1 * r.val = 256 * t.val + r.val
      rw [e2]; omega
    · show win0_1.index t (1 : Fin 2) * 2048 + 1 * d.val = d.val
      rw [e3]; omega
  have he : ∀ d : Fin 2048, iblk m c 2 t (ix2 r d) = V m c main_arg2 (ix2 ⟨256 * t.val + r.val, h⟩ d) := by
    intro d
    show V m c main_arg2 (((cfg0.win 2).blk t).view.emb (ix2 r d)) = _
    congr 1
    apply Shape.idx_ext₂
    · show win0_2.index t (0 : Fin 2) * 256 + 1 * r.val = 256 * t.val + r.val
      rw [e4]; omega
    · show win0_2.index t (1 : Fin 2) * 2048 + 1 * d.val = d.val
      rw [e5]; omega
  have hg : ∀ k : Fin 2048, iblk m c 3 t (ix2 0 k) = V m c main_v4 (ix2 0 k) := by
    intro k
    show V m c main_v4 (((cfg0.win 3).blk t).view.emb (ix2 0 k)) = _
    congr 1
    apply Shape.idx_ext₂
    · show win0_3.index t (0 : Fin 2) * 1 + 1 * 0 = 0
      rw [e6]
    · show win0_3.index t (1 : Fin 2) * 2048 + 1 * k.val = k.val
      rw [e7]; omega
  have hb : ∀ k : Fin 2048, iblk m c 4 t (ix2 0 k) = V m c main_v5 (ix2 0 k) := by
    intro k
    show V m c main_v5 (((cfg0.win 4).blk t).view.emb (ix2 0 k)) = _
    congr 1
    apply Shape.idx_ext₂
    · show win0_4.index t (0 : Fin 2) * 1 + 1 * 0 = 0
      rw [e8]
    · show win0_4.index t (1 : Fin 2) * 2048 + 1 * k.val = k.val
      rw [e9]; omega
  exact stored_rows _ _ _ _ _ _ _ _ _ _ r n ⟨256 * t.val + r.val, h⟩
    (fun d => (hh d).trans (congrFun (V_main_arg0 m c) _))
    (fun d => (hf d).trans (congrFun (V_main_arg1 m c) _))
    (fun d => (he d).trans (congrFun (V_main_arg2 m c) _))
    (fun k => (hg k).trans ((congrFun (V_scale m c) _).trans (vector_at _ k)))
    (fun k => (hb k).trans ((congrFun (V_shift m c) _).trans (vector_at _ k)))

/-- Result 0 as the region leaves it. -/
def G5 (c : Dev nD) : Buf (Elt Ideal) ((c : Thread nD τ).loc main_v6_0) := whole m c

theorem flushed5_eq (c : Dev nD) (t : Fin cfg0.N) :
    (dats m 0 c).flushed 5 t = ((cfg0.win 5).blk t).view.read (Elt Ideal) (G5 m c) := by
  rw [Value.flushed5]
  obtain ⟨e0, e1, e2, e3, -, -⟩ := place_out t
  have ht := points t
  funext i
  obtain ⟨r, n, rfl⟩ : ∃ (r : Fin 256) (n : Fin 2048), i = ix2 r n := ⟨i 0, i 1, eq_ix2 i⟩
  have ho : ((cfg0.win 5).blk t).view.emb (ix2 r n) = (ix2 ⟨256 * t.val + r.val, by omega⟩ n : S17408x2048.Idx) := by
    apply Shape.idx_ext₂
    · show win0_5.index t (0 : Fin 2) * 256 + 1 * r.val = 256 * t.val + r.val
      rw [e0]; omega
    · show win0_5.index t (1 : Fin 2) * 2048 + 1 * n.val = n.val
      rw [e1]; omega
  show out0_5 (iblk m c 0 t) (iblk m c 1 t) (iblk m c 2 t) (iblk m c 3 t) (iblk m c 4 t) (ix2 r n)
    = G5 m c (((cfg0.win 5).blk t).view.emb (ix2 r n))
  rw [ho]
  unfold out0_5
  rw [View.canon_unit_zero zeros]
  simp only [View.ld_unit_zero (S := S256x2048) zeros,
    View.ld_unit_zero (S := S1x2048) zeros]
  exact block_at m c t r n (by omega)

/-- An index is in point `t`'s block of result 0 iff each coordinate is in the block's range. -/
theorem mem_block5 (t : Fin cfg0.N) (i : S17408x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v6_0).slice (win0_5.rect t)).set ↔ _
  rw [View.set_slice_whole, Rect.mem_set_unit]
  exact Iff.rfl

/-- The blocks tile result 0. -/
theorem final5 (c : Dev nD) : (dats m 0 c).arrAt 5 cfg0.N = G5 m c :=
  (dats m 0 c).arrAt_eq_of_cover 5 _ (fun t _ => flushed5_eq m c t) (fun i => by
    have h0 : (i 0).val < 17408 := (i 0).isLt
    have h1 : (i 1).val < 2048 := (i 1).isLt
    let t : Fin cfg0.N := ⟨(i 0).val / 256, by rw [show cfg0.N = 68 from N_0]; omega⟩
    obtain ⟨e0, e1, e2, e3, f5, f6⟩ := place_out t
    refine ⟨t, f5, ?_⟩
    rw [mem_block5]
    have et : t.val = (i 0).val / 256 := rfl
    intro a
    match a with
    | ⟨0, _⟩ =>
      show win0_5.index t (0 : Fin 2) * 256 ≤ (i 0).val ∧ (i 0).val < win0_5.index t (0 : Fin 2) * 256 + 256
      rw [e0, et]; omega
    | ⟨1, _⟩ =>
      show win0_5.index t (1 : Fin 2) * 2048 ≤ (i 1).val ∧ (i 1).val < win0_5.index t (1 : Fin 2) * 2048 + 2048
      rw [e1]; omega)

/-- Result 1 as the region leaves it. -/
def G6 (c : Dev nD) : Buf (Elt Ideal) ((c : Thread nD τ).loc main_v6_1) := whole m c

theorem flushed6_eq (c : Dev nD) (t : Fin cfg0.N) :
    (dats m 0 c).flushed 6 t = ((cfg0.win 6).blk t).view.read (Elt Ideal) (G6 m c) := by
  rw [Value.flushed6]
  obtain ⟨e0, e1, e2, e3, -, -⟩ := place_out t
  have ht := points t
  funext i
  obtain ⟨r, n, rfl⟩ : ∃ (r : Fin 256) (n : Fin 2048), i = ix2 r n := ⟨i 0, i 1, eq_ix2 i⟩
  have ho : ((cfg0.win 6).blk t).view.emb (ix2 r n) = (ix2 ⟨256 * t.val + r.val, by omega⟩ n : S17408x2048.Idx) := by
    apply Shape.idx_ext₂
    · show win0_6.index t (0 : Fin 2) * 256 + 1 * r.val = 256 * t.val + r.val
      rw [e2]; omega
    · show win0_6.index t (1 : Fin 2) * 2048 + 1 * n.val = n.val
      rw [e3]; omega
  show out0_6 (iblk m c 0 t) (iblk m c 1 t) (iblk m c 2 t) (iblk m c 3 t) (iblk m c 4 t) (ix2 r n)
    = G6 m c (((cfg0.win 6).blk t).view.emb (ix2 r n))
  rw [ho]
  unfold out0_6
  rw [View.canon_unit_zero zeros]
  simp only [View.ld_unit_zero (S := S256x2048) zeros,
    View.ld_unit_zero (S := S1x2048) zeros]
  exact block_at m c t r n (by omega)

/-- An index is in point `t`'s block of result 1 iff each coordinate is in the block's range. -/
theorem mem_block6 (t : Fin cfg0.N) (i : S17408x2048.Idx) :
    i ∈ ((cfg0.win 6).blk t).view.set ↔ ∀ a : Fin 2, win0_6.index t a * S256x2048.size a ≤ (i a).val
      ∧ (i a).val < win0_6.index t a * S256x2048.size a + S256x2048.size a := by
  show i ∈ ((View.whole main_v6_1).slice (win0_6.rect t)).set ↔ _
  rw [View.set_slice_whole, Rect.mem_set_unit]
  exact Iff.rfl

/-- The blocks tile result 1. -/
theorem final6 (c : Dev nD) : (dats m 0 c).arrAt 6 cfg0.N = G6 m c :=
  (dats m 0 c).arrAt_eq_of_cover 6 _ (fun t _ => flushed6_eq m c t) (fun i => by
    have h0 : (i 0).val < 17408 := (i 0).isLt
    have h1 : (i 1).val < 2048 := (i 1).isLt
    let t : Fin cfg0.N := ⟨(i 0).val / 256, by rw [show cfg0.N = 68 from N_0]; omega⟩
    obtain ⟨e0, e1, e2, e3, f5, f6⟩ := place_out t
    refine ⟨t, f6, ?_⟩
    rw [mem_block6]
    have et : t.val = (i 0).val / 256 := rfl
    intro a
    match a with
    | ⟨0, _⟩ =>
      show win0_6.index t (0 : Fin 2) * 256 ≤ (i 0).val ∧ (i 0).val < win0_6.index t (0 : Fin 2) * 256 + 256
      rw [e2, et]; omega
    | ⟨1, _⟩ =>
      show win0_6.index t (1 : Fin 2) * 2048 ≤ (i 1).val ∧ (i 1).val < win0_6.index t (1 : Fin 2) * 2048 + 2048
      rw [e3]; omega)

end Cert.SumNorm

namespace Cert.SumNorm

open Cert.OutProjection (mean normal)
open Cert.Reference7Ideal Cert.Reference7Ideal.Gen

set_option maxHeartbeats 1000000 in
/-- The reference's term is the normalized row. -/
theorem reference_at (h f e : FVec Ideal S17408x2048 .f32) (g b : FVec Ideal S2x2048 .f32) (r : Fin 17408) (n : Fin 2048) :
    (addf (mulf (mulf (subf (addf (addf (mulf (broadcastInDim S17408x2048 ![] bcast_S_S17408x2048 (constant S_ .f32 0x3FB504F3#32)) h) f) e) (broadcastInDim S17408x2048 ![0, 1] bcast_S17408x1_S17408x2048_0_1 (Host.divf (broadcastInDim S17408x1 ![0] bcast_S17408_S17408x1_0 (Host.reduceAdd (addf (addf (mulf (broadcastInDim S17408x2048 ![] bcast_S_S17408x2048 (constant S_ .f32 0x3FB504F3#32)) h) f) e) (constant S_ .f32 0x00000000#32) reducesTo_S17408x2048_S17408_d1 h_S_)) (broadcastInDim S17408x1 ![] bcast_S_S17408x1 (constant S_ .f32 0x45000000#32))))) (broadcastInDim S17408x2048 ![0, 1] bcast_S17408x1_S17408x2048_0_1 (Host.rsqrt (addf (Host.divf (broadcastInDim S17408x1 ![0] bcast_S17408_S17408x1_0 (Host.reduceAdd (mulf (subf (addf (addf (mulf (broadcastInDim S17408x2048 ![] bcast_S_S17408x2048 (constant S_ .f32 0x3FB504F3#32)) h) f) e) (broadcastInDim S17408x2048 ![0, 1] bcast_S17408x1_S17408x2048_0_1 (Host.divf (broadcastInDim S17408x1 ![0] bcast_S17408_S17408x1_0 (Host.reduceAdd (addf (addf (mulf (broadcastInDim S17408x2048 ![] bcast_S_S17408x2048 (constant S_ .f32 0x3FB504F3#32)) h) f) e) (constant S_ .f32 0x00000000#32) reducesTo_S17408x2048_S17408_d1 h_S_)) (broadcastInDim S17408x1 ![] bcast_S_S17408x1 (constant S_ .f32 0x45000000#32))))) (subf (addf (addf (mulf (broadcastInDim S17408x2048 ![] bcast_S_S17408x2048 (constant S_ .f32 0x3FB504F3#32)) h) f) e) (broadcastInDim S17408x2048 ![0, 1] bcast_S17408x1_S17408x2048_0_1 (Host.divf (broadcastInDim S17408x1 ![0] bcast_S17408_S17408x1_0 (Host.reduceAdd (addf (addf (mulf (broadcastInDim S17408x2048 ![] bcast_S_S17408x2048 (constant S_ .f32 0x3FB504F3#32)) h) f) e) (constant S_ .f32 0x00000000#32) reducesTo_S17408x2048_S17408_d1 h_S_)) (broadcastInDim S17408x1 ![] bcast_S_S17408x1 (constant S_ .f32 0x45000000#32)))))) (constant S_ .f32 0x00000000#32) reducesTo_S17408x2048_S17408_d1 h_S_)) (broadcastInDim S17408x1 ![] bcast_S_S17408x1 (constant S_ .f32 0x45000000#32))) (broadcastInDim S17408x1 ![] bcast_S_S17408x1 (constant S_ .f32 0x3727C5AC#32)))))) (broadcastInDim S17408x2048 ![0, 1] bcast_S1x2048_S17408x2048_0_1 (broadcastInDim S1x2048 ![1] bcast_S2048_S1x2048_1 (shapeCast _ (extractStridedSlice S1x2048 ![0, 0] g slices_S2x2048_S1x2048_0_0) shapeCasts_S1x2048_S2048)))) (broadcastInDim S17408x2048 ![0, 1] bcast_S1x2048_S17408x2048_0_1 (broadcastInDim S1x2048 ![1] bcast_S2048_S1x2048_1 (shapeCast _ (extractStridedSlice S1x2048 ![0, 0] b slices_S2x2048_S1x2048_0_0) shapeCasts_S1x2048_S2048))) : FVec Ideal S17408x2048 .f32) (ix2 r n) = out h f e g b r n := by
  pointwise
  rfl

/-- Both of the reference's results, as one array. -/
def result (m : (ℓ : Loc nD τ sig) → Buf (Elt Ideal) ℓ) (c : Dev nD) : S17408x2048.Idx → EReal := fun i =>
  out (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (i 0) (i 1)

theorem result_eq (h f e : FVec Ideal S17408x2048 .f32) (g b : FVec Ideal S2x2048 .f32) :
    (addf (mulf (mulf (subf (addf (addf (mulf (broadcastInDim S17408x2048 ![] bcast_S_S17408x2048 (constant S_ .f32 0x3FB504F3#32)) h) f) e) (broadcastInDim S17408x2048 ![0, 1] bcast_S17408x1_S17408x2048_0_1 (Host.divf (broadcastInDim S17408x1 ![0] bcast_S17408_S17408x1_0 (Host.reduceAdd (addf (addf (mulf (broadcastInDim S17408x2048 ![] bcast_S_S17408x2048 (constant S_ .f32 0x3FB504F3#32)) h) f) e) (constant S_ .f32 0x00000000#32) reducesTo_S17408x2048_S17408_d1 h_S_)) (broadcastInDim S17408x1 ![] bcast_S_S17408x1 (constant S_ .f32 0x45000000#32))))) (broadcastInDim S17408x2048 ![0, 1] bcast_S17408x1_S17408x2048_0_1 (Host.rsqrt (addf (Host.divf (broadcastInDim S17408x1 ![0] bcast_S17408_S17408x1_0 (Host.reduceAdd (mulf (subf (addf (addf (mulf (broadcastInDim S17408x2048 ![] bcast_S_S17408x2048 (constant S_ .f32 0x3FB504F3#32)) h) f) e) (broadcastInDim S17408x2048 ![0, 1] bcast_S17408x1_S17408x2048_0_1 (Host.divf (broadcastInDim S17408x1 ![0] bcast_S17408_S17408x1_0 (Host.reduceAdd (addf (addf (mulf (broadcastInDim S17408x2048 ![] bcast_S_S17408x2048 (constant S_ .f32 0x3FB504F3#32)) h) f) e) (constant S_ .f32 0x00000000#32) reducesTo_S17408x2048_S17408_d1 h_S_)) (broadcastInDim S17408x1 ![] bcast_S_S17408x1 (constant S_ .f32 0x45000000#32))))) (subf (addf (addf (mulf (broadcastInDim S17408x2048 ![] bcast_S_S17408x2048 (constant S_ .f32 0x3FB504F3#32)) h) f) e) (broadcastInDim S17408x2048 ![0, 1] bcast_S17408x1_S17408x2048_0_1 (Host.divf (broadcastInDim S17408x1 ![0] bcast_S17408_S17408x1_0 (Host.reduceAdd (addf (addf (mulf (broadcastInDim S17408x2048 ![] bcast_S_S17408x2048 (constant S_ .f32 0x3FB504F3#32)) h) f) e) (constant S_ .f32 0x00000000#32) reducesTo_S17408x2048_S17408_d1 h_S_)) (broadcastInDim S17408x1 ![] bcast_S_S17408x1 (constant S_ .f32 0x45000000#32)))))) (constant S_ .f32 0x00000000#32) reducesTo_S17408x2048_S17408_d1 h_S_)) (broadcastInDim S17408x1 ![] bcast_S_S17408x1 (constant S_ .f32 0x45000000#32))) (broadcastInDim S17408x1 ![] bcast_S_S17408x1 (constant S_ .f32 0x3727C5AC#32)))))) (broadcastInDim S17408x2048 ![0, 1] bcast_S1x2048_S17408x2048_0_1 (broadcastInDim S1x2048 ![1] bcast_S2048_S1x2048_1 (shapeCast _ (extractStridedSlice S1x2048 ![0, 0] g slices_S2x2048_S1x2048_0_0) shapeCasts_S1x2048_S2048)))) (broadcastInDim S17408x2048 ![0, 1] bcast_S1x2048_S17408x2048_0_1 (broadcastInDim S1x2048 ![1] bcast_S2048_S1x2048_1 (shapeCast _ (extractStridedSlice S1x2048 ![0, 0] b slices_S2x2048_S1x2048_0_0) shapeCasts_S1x2048_S2048))) : FVec Ideal S17408x2048 .f32) = fun i => out h f e g b (i 0) (i 1) :=
  funext fun i => by
    obtain ⟨p, q, rfl⟩ : ∃ (p : Fin 17408) (q : Fin 2048), i = ix2 p q := ⟨i 0, i 1, eq_ix2 i⟩
    exact reference_at _ _ _ _ _ p q

/-- The reference runs to the normalized rows. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = result m c
      ∧ r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq _ _ _ _ _),
    (h c).2.1.trans (funext fun i => congrFun (result_eq _ _ _ _ _) i), (h c).2.2⟩)
    (Value.run m ρ)

end Cert.SumNorm

end
-- ==== Proof.ExpertBody.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.WholeRead
public import Idealize.ShloMosaic.Lib.VecWindow
public import Idealize.ShloMosaic.Lib.Pipeline.Value

@[expose] public section

set_option maxRecDepth 16384

noncomputable section

namespace Cert.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The one word of the table of the tile count. -/
def countOf (n : Vec F S1 .i32) : Elt F .i32 := n (fun a => ⟨0, by fin_cases a; decide⟩)

/-- Every index of a one-word table is the same, so any read of it reads that word. -/
theorem count_at (n : Vec F S1 .i32) (x : S1.Idx) : n x = countOf n := by
  unfold countOf
  congr 1
  funext a
  fin_cases a
  exact Fin.ext (Nat.lt_one_iff.mp (x 0).isLt)

theorem origin2 : (![0, 0] : Fin 2 → Nat) = fun _ => 0 := funext fun a => by fin_cases a <;> rfl
theorem origin3 : (![0, 0, 0] : Fin 3 → Nat) = fun _ => 0 := funext fun a => by fin_cases a <;> rfl

set_option maxHeartbeats 1000000 in
/-- A tile past the tile count: the body reads the count and does nothing else. -/
theorem run_dead (c : Dev nD) (i : grid0.Coords) (q : PosShare TreeShare) (n : Vec F S1 .i32)
    (arg2 : Memref sig .tc .smem S76 .i32) (harg2 : arg2.IsWhole) (arg3 : Memref sig .tc .smem S1 .i32) (harg3 : arg3.IsWhole) (arg4 : Memref sig .tc .vmem S512x2048 .f32) (harg4 : arg4.IsWhole)
    (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole)
    (arg8 : Memref sig .tc .hbm S38912x2048 .f32) (harg8 : arg8.IsWhole) (arg9 : Memref sig .tc .vmem S512x2048 .f32) (harg9 : arg9.IsWhole) (arg10 : Memref sig .tc .vmem S512x2048 .bf16) (harg10 : arg10.IsWhole)
    (hc : ¬ k0_cond1 i (countOf n) = 1#1) (E : Set ℕ) (K : PUnit → sProp 𝕄) :
    iprop(owns (c : Thread nD τ) arg3 q n ∗ (owns (c : Thread nD τ) arg3 q n -∗ K ⟨⟩))
      ⊢ wp frame (wpE (defs₀ (F := F)) Variants.none c none) E (cc0_moe_ffn i arg2 harg2 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f, %hf, H⟩, Hk⟩
  obtain rfl := harg3.eq_unread hf
  sl_exec
  have hr : run_dead.sl.r c n arg3 harg3 = countOf n := by
    unfold run_dead.sl.r
    exact (harg3.readAt_unread _ _ _).trans (count_at n _)
  simp only [hr]
  rw [dif_neg hc]
  sl_step
  iapply Hk
  iexists _; isplitr; · ipureintro; exact harg3.read_unread _
  iexact H

set_option maxHeartbeats 1000000 in
/-- The first column block of a live tile: the token block is kept, cast, in the scratch buffer, and the output
    block holds the first partial product over zeros. -/
theorem run_first (c : Dev nD) (i : grid0.Coords) (q : PosShare TreeShare) (n : Vec F S1 .i32)
    (arg2 : Memref sig .tc .smem S76 .i32) (harg2 : arg2.IsWhole) (arg3 : Memref sig .tc .smem S1 .i32) (harg3 : arg3.IsWhole) (arg4 : Memref sig .tc .vmem S512x2048 .f32) (harg4 : arg4.IsWhole)
    (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole)
    (arg8 : Memref sig .tc .hbm S38912x2048 .f32) (harg8 : arg8.IsWhole) (arg9 : Memref sig .tc .vmem S512x2048 .f32) (harg9 : arg9.IsWhole) (arg10 : Memref sig .tc .vmem S512x2048 .bf16) (harg10 : arg10.IsWhole)
    (hc : k0_cond1 i (countOf n) = 1#1) (hc' : k0_cond2 i = 1#1)
    (x : Vec F S512x2048 .f32) (g u : Vec F S1x2048x512 .bf16) (d : Vec F S1x512x2048 .bf16) (E : Set ℕ) (K : PUnit → sProp 𝕄) :
    iprop(owns (c : Thread nD τ) arg3 q n ∗ owns (c : Thread nD τ) arg4 fullShare x ∗ owns (c : Thread nD τ) arg5 fullShare g ∗ owns (c : Thread nD τ) arg6 fullShare u ∗ owns (c : Thread nD τ) arg7 fullShare d
        ∗ (∃ y, owns (c : Thread nD τ) arg9 fullShare y) ∗ (∃ s, owns (c : Thread nD τ) arg10 fullShare s)
        ∗ (iprop(owns (c : Thread nD τ) arg3 q n ∗ owns (c : Thread nD τ) arg4 fullShare x ∗ owns (c : Thread nD τ) arg5 fullShare g ∗ owns (c : Thread nD τ) arg6 fullShare u ∗ owns (c : Thread nD τ) arg7 fullShare d
            ∗ owns (c : Thread nD τ) arg9 fullShare (k0_pay3 (k0_pay2 (F := F)) (k0_pay1 x) g u d) ∗ owns (c : Thread nD τ) arg10 fullShare (k0_pay1 x)) -∗ K ⟨⟩))
      ⊢ wp frame (wpE (defs₀ (F := F)) Variants.none c none) E (cc0_moe_ffn i arg2 harg2 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f3, %hf3, H3⟩, ⟨%f4, %hf4, H4⟩, ⟨%f5, %hf5, H5⟩, ⟨%f6, %hf6, H6⟩, ⟨%f7, %hf7, H7⟩, ⟨%y, %f9, -, H9⟩, ⟨%s, %f10, -, H10⟩, Hk⟩
  obtain rfl := harg3.eq_unread hf3; obtain rfl := harg4.eq_unread hf4; obtain rfl := harg5.eq_unread hf5; obtain rfl := harg6.eq_unread hf6; obtain rfl := harg7.eq_unread hf7
  sl_exec
  have hr : run_first.sl.r c n arg3 harg3 = countOf n := by
    unfold run_first.sl.r
    exact (harg3.readAt_unread _ _ _).trans (count_at n _)
  simp only [hr]
  rw [dif_pos hc]
  sl_exec (disch := first | sl_exact hc')
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    sl_unfold_words
    rw [View.read_writes_full (s := S512x2048)]
    simp only [View.readAt_eq_ld, View.readCov_unit_zero (S := S512x2048) _ origin2, harg4.read_unread, harg5.read_unread, harg6.read_unread, harg7.read_unread,
      View.ld_unit_zero (S := S512x2048) origin2, View.ld_unit_zero (S := S1x2048x512) origin3, View.ld_unit_zero (S := S1x512x2048) origin3]
  · iexists _; isplitr; swap; · iexact H10
    ipureintro
    rw [dif_pos hc]
    sl_unfold_words
    rw [View.read_writes_full (s := S512x2048)]
    simp only [View.readAt_eq_ld, harg4.read_unread, View.ld_unit_zero (S := S512x2048) origin2]

set_option maxHeartbeats 1000000 in
/-- A later column block of a live tile: its partial product is added to the output block. -/
theorem run_next (c : Dev nD) (i : grid0.Coords) (q : PosShare TreeShare) (n : Vec F S1 .i32)
    (arg2 : Memref sig .tc .smem S76 .i32) (harg2 : arg2.IsWhole) (arg3 : Memref sig .tc .smem S1 .i32) (harg3 : arg3.IsWhole) (arg4 : Memref sig .tc .vmem S512x2048 .f32) (harg4 : arg4.IsWhole)
    (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole)
    (arg8 : Memref sig .tc .hbm S38912x2048 .f32) (harg8 : arg8.IsWhole) (arg9 : Memref sig .tc .vmem S512x2048 .f32) (harg9 : arg9.IsWhole) (arg10 : Memref sig .tc .vmem S512x2048 .bf16) (harg10 : arg10.IsWhole)
    (hc : k0_cond1 i (countOf n) = 1#1) (hc' : ¬ k0_cond2 i = 1#1)
    (g u : Vec F S1x2048x512 .bf16) (d : Vec F S1x512x2048 .bf16) (y : Vec F S512x2048 .f32) (s : Vec F S512x2048 .bf16) (E : Set ℕ) (K : PUnit → sProp 𝕄) :
    iprop(owns (c : Thread nD τ) arg3 q n ∗ owns (c : Thread nD τ) arg5 fullShare g ∗ owns (c : Thread nD τ) arg6 fullShare u ∗ owns (c : Thread nD τ) arg7 fullShare d
        ∗ owns (c : Thread nD τ) arg9 fullShare y ∗ owns (c : Thread nD τ) arg10 fullShare s
        ∗ (iprop(owns (c : Thread nD τ) arg3 q n ∗ owns (c : Thread nD τ) arg5 fullShare g ∗ owns (c : Thread nD τ) arg6 fullShare u ∗ owns (c : Thread nD τ) arg7 fullShare d
            ∗ owns (c : Thread nD τ) arg9 fullShare (k0_pay3 y s g u d) ∗ owns (c : Thread nD τ) arg10 fullShare s) -∗ K ⟨⟩))
      ⊢ wp frame (wpE (defs₀ (F := F)) Variants.none c none) E (cc0_moe_ffn i arg2 harg2 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f3, %hf3, H3⟩, ⟨%f5, %hf5, H5⟩, ⟨%f6, %hf6, H6⟩, ⟨%f7, %hf7, H7⟩, ⟨%f9, %hf9, H9⟩, ⟨%f10, %hf10, H10⟩, Hk⟩
  obtain rfl := harg3.eq_unread hf3; obtain rfl := harg5.eq_unread hf5; obtain rfl := harg6.eq_unread hf6; obtain rfl := harg7.eq_unread hf7; obtain rfl := harg9.eq_unread hf9; obtain rfl := harg10.eq_unread hf10
  sl_exec
  have hr : run_next.sl.r c n arg3 harg3 = countOf n := by
    unfold run_next.sl.r
    exact (harg3.readAt_unread _ _ _).trans (count_at n _)
  simp only [hr]
  rw [dif_pos hc]
  sl_exec (disch := first | sl_exact hc')
  sl_step
  iapply Hk
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    rw [View.read_writes_full (s := S512x2048)]
    simp only [View.readAt_eq_ld, harg5.read_unread, harg6.read_unread, harg7.read_unread, harg9.read_unread, harg10.read_unread,
      View.ld_unit_zero (S := S512x2048) origin2, View.ld_unit_zero (S := S1x2048x512) origin3, View.ld_unit_zero (S := S1x512x2048) origin3]
  · iexists _; isplitr; · ipureintro; exact harg10.read_unread _
    iexact H10

end Cert.Expert

end
-- ==== Proof.ExpertTables.lean ====
/-
  The expert kernel's two prefetched tables, and what its index maps and conditions compute from them.

  Table 1 is the tile count `nt`; table 0 the expert of each tile. Where the count is at least 1 and every table entry an
  expert's number (`Routed`), every block is inside its array (`admissible`): tile `t` below the count reads row block
  `t` and expert `te[t]`'s weights, tile by tile of the hidden width; a tile at or past the count keeps the last row
  block and stores nothing.
-/
module

public import proofs.«01_k».proof.Proof.ExpertBody

@[expose] public section

set_option maxRecDepth 16384

noncomputable section

namespace Cert.Expert

open Cert.KernelIdeal Cert.KernelIdeal.Gen
open Idealize.ShloMosaic Idealize.ShloMosaic.TcCoe Idealize.ShloMosaic.WordCmp

variable {F : FTy → Type} [FloatOps F]

/-- The tile count, a number. -/
def count (pf : pre0.Contents (Elt F)) : ℕ := BitVec.toNat (countOf (F := F) (pf 1))

/-- The expert of tile `t`, a number. -/
def expert (pf : pre0.Contents (Elt F)) (t : Fin 76) : ℕ := BitVec.toNat (pf 0 (fun a => ⟨t.val, by fin_cases a; exact t.isLt⟩) : Elt F .i32)

/-- At least one tile, no count that reads as a negative number, and every tile's expert one of the eight. -/
structure Routed (pf : pre0.Contents (Elt F)) : Prop where
  one_le : 1 ≤ count pf
  small : count pf < 2 ^ 31
  expert_lt : ∀ t, expert pf t < 8

/-- What an index map's read of the count reads. -/
theorem at_count (pf : pre0.Contents (Elt F)) : pf.at 1 (Rect.unit (s := S1) ![0] S1.size inb_S1_S1_0) numel1_S1 = countOf (F := F) (pf 1) :=
  count_at _ _

theorem atD_count (pf : pre0.Contents (Elt F)) : pf.atD 1 ![0] = countOf (F := F) (pf 1) := by
  unfold Pipeline.Prefetch.Contents.atD
  split
  · exact count_at _ _
  · next hn => exact absurd (fun a => by fin_cases a; decide) hn

/-- What an index map's read of the experts' table reads. -/
theorem at_expert (pf : pre0.Contents (Elt F)) (i : grid0.Coords) :
    BitVec.toNat (pf.at 0 (Rect.unit (s := S76) ![(Scalar.indexCast (BitVec.ofNat 32 (i 0).val)).toNat] S1.size (k0_off1_inb i)) numel1_S1 : Elt F .i32) = expert pf (i 0) := by
  have hi : (i 0).val < 76 := (i 0).isLt
  unfold expert
  refine congrArg (fun x => BitVec.toNat (pf 0 x : Elt F .i32)) (funext fun a => Fin.ext ?_)
  fin_cases a
  show (BitVec.ofNat 32 (i 0).val).toNat + _ = (i 0).val
  rw [BitVec.toNat_ofNat, Nat.mod_eq_of_lt (by omega)]
  rfl

/-- The body's first condition: the tile is below the count. -/
theorem cond1_iff (pf : pre0.Contents (Elt F)) (h : Routed pf) (i : grid0.Coords) :
    k0_cond1 i (countOf (F := F) (pf 1)) = 1#1 ↔ (i 0).val < count pf := by
  have hi : (i 0).val < 76 := (i 0).isLt
  have h2 := h.small
  unfold count at h2 ⊢
  generalize countOf (F := F) (pf 1) = w at h2 ⊢
  change BitVec 32 at w
  unfold k0_cond1
  obtain ⟨n, hn, rfl⟩ : ∃ n, n < 2 ^ 31 ∧ w = BitVec.ofNat 32 n := ⟨w.toNat, h2, by simp⟩
  have e : Scalar.cmpi .slt (BitVec.ofNat 32 (i 0).val) (BitVec.ofNat 32 n) = BitVec.ofBool (decide ((i 0).val < n)) :=
    cmpi_slt_ofNat (by omega) (by omega)
  dsimp only
  rw [e, BitVec.toNat_ofNat, Nat.mod_eq_of_lt (by omega)]
  by_cases hl : (i 0).val < n
  · simp only [hl, decide_true, iff_true]; decide
  · simp only [hl, decide_false, iff_false]; decide

/-- The second: it is the first tile of the hidden width. -/
theorem cond2_iff (i : grid0.Coords) : k0_cond2 i = 1#1 ↔ (i 1).val = 0 := by
  have : ∀ j : Fin 14, (Scalar.cmpi .ne (Scalar.extui (Scalar.cmpi .eq (BitVec.ofNat 32 j.val) 0#32) : BitVec 32) 0#32 = 1#1 ↔ j.val = 0) := by decide
  exact this (i 1)

/-- The smaller of a tile's number and the last live tile's. -/
theorem min_tile (n t : ℕ) (h1 : 1 ≤ n) (h2 : n < 2 ^ 31) (ht : t < 76) :
    (Scalar.minsi (BitVec.ofNat 32 t) (Scalar.subi (BitVec.ofNat 32 n) 1#32)).toNat = min t (n - 1) := by
  have e : (Scalar.subi (BitVec.ofNat 32 n) 1#32 : BitVec 32) = BitVec.ofNat 32 (n - 1) := by
    apply BitVec.eq_of_toNat_eq
    show (BitVec.ofNat 32 n - 1#32).toNat = _
    rw [BitVec.toNat_sub, BitVec.toNat_ofNat, BitVec.toNat_ofNat, BitVec.toNat_ofNat]
    omega
  rw [e]
  show (if BitVec.slt _ _ then _ else _ : BitVec 32).toNat = _
  have a1 : (BitVec.ofNat 32 t).toInt = (t : Int) := toInt_ofNat_of_lt (by omega)
  have a2 : (BitVec.ofNat 32 (n - 1)).toInt = ((n - 1 : ℕ) : Int) := toInt_ofNat_of_lt (by omega)
  rw [BitVec.slt_eq_decide, a1, a2]
  by_cases hc : t < n - 1
  · rw [if_pos (by simp only [decide_eq_true_eq]; omega), BitVec.toNat_ofNat]; omega
  · rw [if_neg (by simp only [decide_eq_true_eq]; omega), BitVec.toNat_ofNat]; omega

/-- A live tile's hidden tile, or the last one. -/
theorem sel_tile (n t j : ℕ) (h2 : n < 2 ^ 31) (ht : t < 76) (hj : j < 14) :
    (Scalar.select (Scalar.cmpi .slt (BitVec.ofNat 32 t) (BitVec.ofNat 32 n)) (BitVec.ofNat 32 j) 13#32 : BitVec 32).toNat = if t < n then j else 13 := by
  have e : Scalar.cmpi .slt (BitVec.ofNat 32 t) (BitVec.ofNat 32 n) = BitVec.ofBool (decide (t < n)) := cmpi_slt_ofNat (by omega) (by omega)
  rw [e]
  by_cases hl : t < n
  · rw [if_pos hl]; simp only [hl, decide_true]
    show (BitVec.ofNat 32 j).toNat = j
    rw [BitVec.toNat_ofNat]; omega
  · rw [if_neg hl]; simp only [hl, decide_false]; rfl

/-- The row block of a grid point: the tile, or the last live one. -/
def row (pf : pre0.Contents (Elt F)) (i : grid0.Coords) : ℕ := min (i 0).val (count pf - 1)
/-- The tile of the hidden width that a grid point reads. -/
def col (pf : pre0.Contents (Elt F)) (i : grid0.Coords) : ℕ := if (i 0).val < count pf then (i 1).val else 13

theorem count_word (pf : pre0.Contents (Elt F)) : countOf (F := F) (pf 1) = BitVec.ofNat 32 (count pf) := by
  unfold count; exact BitVec.eq_of_toNat_eq (by rw [BitVec.toNat_ofNat, Nat.mod_eq_of_lt (BitVec.isLt _)])

theorem transform_rows (pf : pre0.Contents (Elt F)) (h : Routed pf) (i : grid0.Coords) :
    cc0_transform_0 inb_S1_S1_0 numel1_S1 pf i = ![row pf i, 0] := by
  unfold cc0_transform_0
  dsimp only
  rw [at_count, count_word, min_tile _ _ h.one_le h.small (i 0).isLt]
  rfl

theorem transform_out (pf : pre0.Contents (Elt F)) (h : Routed pf) (i : grid0.Coords) :
    cc0_transform_5 inb_S1_S1_0 numel1_S1 pf i = ![row pf i, 0] := by
  unfold cc0_transform_5
  dsimp only
  rw [at_count, count_word, min_tile _ _ h.one_le h.small (i 0).isLt]
  rfl

theorem transform_gate (pf : pre0.Contents (Elt F)) (h : Routed pf) (i : grid0.Coords) :
    cc0_transform_1 inb_S1_S1_0 numel1_S1 k0_off1_inb pf i = ![expert pf (i 0), 0, col pf i] := by
  unfold cc0_transform_1
  dsimp only
  rw [at_expert, at_count, count_word, sel_tile _ _ _ h.small (i 0).isLt (i 1).isLt]
  rfl

theorem transform_up (pf : pre0.Contents (Elt F)) (h : Routed pf) (i : grid0.Coords) :
    cc0_transform_2 inb_S1_S1_0 numel1_S1 k0_off1_inb pf i = ![expert pf (i 0), 0, col pf i] := by
  unfold cc0_transform_2
  dsimp only
  rw [at_expert, at_count, count_word, sel_tile _ _ _ h.small (i 0).isLt (i 1).isLt]
  rfl

theorem transform_down (pf : pre0.Contents (Elt F)) (h : Routed pf) (i : grid0.Coords) :
    cc0_transform_3 inb_S1_S1_0 numel1_S1 k0_off1_inb pf i = ![expert pf (i 0), col pf i, 0] := by
  unfold cc0_transform_3
  dsimp only
  rw [at_expert, at_count, count_word, sel_tile _ _ _ h.small (i 0).isLt (i 1).isLt]
  rfl

theorem row_lt (pf : pre0.Contents (Elt F)) (i : grid0.Coords) : row pf i < 76 :=
  lt_of_le_of_lt (min_le_left _ _) (i 0).isLt

theorem col_lt (pf : pre0.Contents (Elt F)) (i : grid0.Coords) : col pf i < 14 := by
  have : (i 1).val < 14 := (i 1).isLt
  unfold col; split <;> omega

/-- Every block of a routed call is inside its array, and a transfer of it moves whole words. -/
theorem admissible (pf : pre0.Contents (Elt F)) (h : Routed pf) : ok0 pf := by
  unfold ok0
  refine ⟨fun i => ⟨fun a => ?_, .inl rfl⟩, fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩, fun i => ⟨fun a => ?_, .inl rfl⟩⟩
  all_goals
    have hr := row_lt pf i
    have hc := col_lt pf i
    have he := h.expert_lt (i 0)
  · rw [transform_rows pf h]; fin_cases a
    · show (row pf i + 1) * 512 ≤ 38912; omega
    · show (0 + 1) * 2048 ≤ 2048; omega
  · rw [transform_gate pf h]; fin_cases a
    · show (expert pf (i 0) + 1) * 1 ≤ 8; omega
    · show (0 + 1) * 2048 ≤ 2048; omega
    · show (col pf i + 1) * 512 ≤ 7168; omega
  · rw [transform_up pf h]; fin_cases a
    · show (expert pf (i 0) + 1) * 1 ≤ 8; omega
    · show (0 + 1) * 2048 ≤ 2048; omega
    · show (col pf i + 1) * 512 ≤ 7168; omega
  · rw [transform_down pf h]; fin_cases a
    · show (expert pf (i 0) + 1) * 1 ≤ 8; omega
    · show (col pf i + 1) * 512 ≤ 7168; omega
    · show (0 + 1) * 2048 ≤ 2048; omega
  · rw [transform_out pf h]; fin_cases a
    · show (row pf i + 1) * 512 ≤ 38912; omega
    · show (0 + 1) * 2048 ≤ 2048; omega

/-- The grid's points in order: 14 tiles of the hidden width of each of 76 row tiles. -/
theorem coords0 (t : Fin grid0.N) : (grid0.coords t 0).val = t.val / 14 := (by decide +kernel : ∀ t : Fin grid0.N, (grid0.coords t 0).val = t.val / 14) t
theorem coords1 (t : Fin grid0.N) : (grid0.coords t 1).val = t.val % 14 := (by decide +kernel : ∀ t : Fin grid0.N, (grid0.coords t 1).val = t.val % 14) t

end Cert.Expert

end
-- ==== Proof.ExpertData.lean ====
/-
  The expert kernel's proof data: what every buffer holds at every grid point.

  The pipeline runs at tables that route (`Routed`). At a live point the output block holds the tiles of the hidden width
  summed so far (`acc`), restarted at each row tile; at a dead point it keeps what it held. The scratch buffer holds the
  row tile, rounded, from its first point on.
-/
module

public import proofs.«01_k».proof.Proof.ExpertTables
public import Idealize.ShloMosaic.Lib.Pointwise

@[expose] public section

set_option maxRecDepth 16384

noncomputable section

namespace Cert.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
  (pf : pre0.Contents (Elt F)) (hr : Routed pf)

/-- The tables as contents the pipeline admits, and the pipeline at them. -/
abbrev adm : (pcfg0 (F := F)).Adm := ⟨pf, admissible pf hr⟩
abbrev cfgM : Pipeline.Cfg sig Λ₀ := cfg0 (adm pf hr)

theorem lt_N (t : Fin (cfgM pf hr).N) : t.val < 1064 := lt_of_lt_of_eq t.isLt (show (cfgM pf hr).N = 1064 from N_0)

/-! ## The schedule -/

theorem index0 (t : Fin (cfgM pf hr).N) : ((cfgM pf hr).win 0).index t = ![min (t.val / 14) (count pf - 1), 0] := by
  have e : ((cfgM pf hr).win 0).index t = cc0_transform_0 inb_S1_S1_0 numel1_S1 pf (grid0.coords t) := rfl
  rw [e, transform_rows pf hr]; unfold row; rw [coords0]

theorem index4 (t : Fin (cfgM pf hr).N) : ((cfgM pf hr).win 4).index t = ![min (t.val / 14) (count pf - 1), 0] := by
  have e : ((cfgM pf hr).win 4).index t = cc0_transform_5 inb_S1_S1_0 numel1_S1 pf (grid0.coords t) := rfl
  rw [e, transform_out pf hr]; unfold row; rw [coords0]

/-- The output block is written back when the next point is in another row tile, and at the end. -/
theorem flush4 (t : Fin (cfgM pf hr).N) : ((cfgM pf hr).win 4).flush t
    = decide (t.val + 1 = 1064 ∨ min ((t.val + 1) / 14) (count pf - 1) ≠ min (t.val / 14) (count pf - 1)) := by
  have hN : (cfgM pf hr).N = 1064 := N_0
  have e : ∀ (h : t.val + 1 < (cfgM pf hr).N), (((cfgM pf hr).win 4).index ⟨t.val + 1, h⟩ ≠ ((cfgM pf hr).win 4).index t
      ↔ min ((t.val + 1) / 14) (count pf - 1) ≠ min (t.val / 14) (count pf - 1)) := by
    intro h
    rw [index4, index4]
    refine not_congr ⟨fun h => congrFun h 0, fun h => ?_⟩
    dsimp only at h ⊢
    rw [h]
  unfold Window.flush
  have hout : ((cfgM pf hr).win 4).isOut = true := rfl
  rw [hout, Bool.true_and]
  have hN' : (cfgM pf hr).grid.N = 1064 := N_0
  by_cases hl : t.val + 1 = 1064
  · simp only [hl, hN', decide_true, Bool.true_or, true_or]
  · have h : t.val + 1 < (cfgM pf hr).grid.N := by have := lt_N pf hr t; omega
    have e1 : decide (t.val + 1 = (cfgM pf hr).grid.N) = false := decide_eq_false (by omega)
    rw [e1, Bool.false_or]
    refine decide_eq_decide.mpr ⟨fun ⟨h', hne⟩ => .inr ((e h').mp hne), fun hor => ⟨h, (e h).mpr (hor.resolve_left hl)⟩⟩

/-- The body leaves the output block alone at exactly the dead points. -/
theorem idle4 (t : Fin (cfgM pf hr).N) : (cfgM pf hr).idle 4 ((cfgM pf hr).grid.coords t) = decide (¬ t.val / 14 < count pf) := by
  have e : (cfgM pf hr).idle 4 ((cfgM pf hr).grid.coords t)
      = (!(k0_cond1 (grid0.coords t) (pf.atD 1 ![0]) == 1#1 && k0_cond2 (grid0.coords t) == 1#1) && !(k0_cond1 (grid0.coords t) (pf.atD 1 ![0]) == 1#1)) := rfl
  rw [e, atD_count]
  have h1 := cond1_iff pf hr (grid0.coords t)
  rw [coords0] at h1
  by_cases hl : t.val / 14 < count pf
  · have h2 := h1.mpr hl
    simp only [h2, hl, not_true_eq_false, decide_false, beq_self_eq_true, Bool.not_true, Bool.and_false]
  · have h2 : ¬ k0_cond1 (grid0.coords t) (countOf (F := F) (pf 1)) = 1#1 := fun h => hl (h1.mp h)
    have h3 : (k0_cond1 (grid0.coords t) (countOf (F := F) (pf 1)) == 1#1) = false := beq_eq_false_iff_ne.mpr h2
    simp only [h3, hl, not_false_eq_true, decide_true, Bool.false_and, Bool.not_false, Bool.and_true]

/-- The output's buffer holds nothing yet at the first point of each live row tile, and only there. -/
theorem fresh4 (n : ℕ) (hn : n ≤ (cfgM pf hr).N) : (cfgM pf hr).fresh 4 n = decide (n = 1064 ∨ (n % 14 = 0 ∧ n / 14 < count pf)) := by
  have h1 := hr.one_le
  refine Cfg.fresh_tab (cfg := cfgM pf hr) 4 (fun n => decide (n = 1064 ∨ (n % 14 = 0 ∧ n / 14 < count pf))) ?_ (fun t => ?_) n hn
  · exact decide_eq_true (.inr ⟨rfl, by omega⟩)
  · rw [flush4, idle4]
    have ht := lt_N pf hr t
    rw [Bool.eq_iff_iff]
    simp only [decide_eq_true_eq, Bool.or_eq_true, Bool.and_eq_true]
    omega

/-! ## The blocks -/

/-- Window `w`'s block at point `t`, read off its array as the region finds it. -/
def iblk (c : Dev nD) (w : Fin (cfgM pf hr).W) (t : Fin (cfgM pf hr).N) : (((cfgM pf hr).win w).xblock ((cfgM pf hr).grid.coords t)).Idx → Elt F ((cfgM pf hr).win w).elt :=
  (((cfgM pf hr).win w).blk t).view.read (Elt F) (V c (Pipeline.arrRef spec0 w))

/-- The rows' block, at an index: rows of the point's row tile. -/
theorem rows_at (c : Dev nD) (t : Fin (cfgM pf hr).N) (r : Fin 512) (d : Fin 2048) :
    iblk V pf hr c 0 t (ix2 r d) = V c main_arg0 (ix2 ⟨512 * min (t.val / 14) (count pf - 1) + r.val, by have := lt_N pf hr t; omega⟩ d) := by
  have e := index0 pf hr t
  show V c main_arg0 ((((cfgM pf hr).win 0).blk t).view.emb (ix2 r d)) = _
  congr 1
  apply Shape.idx_ext₂
  · show ((cfgM pf hr).win 0).index t (0 : Fin 2) * 512 + 1 * r.val = 512 * min (t.val / 14) (count pf - 1) + r.val
    rw [e]; show min (t.val / 14) (count pf - 1) * 512 + 1 * r.val = _; omega
  · show ((cfgM pf hr).win 0).index t (1 : Fin 2) * 2048 + 1 * d.val = d.val
    rw [e]; show 0 * 2048 + 1 * d.val = _; omega

/-- Two points of one row tile read the same rows. -/
theorem rows_same (c : Dev nD) (t t' : Fin (cfgM pf hr).N) (h : t'.val / 14 = t.val / 14) : (iblk V pf hr c 0 t' : Vec F S512x2048 .f32) = iblk V pf hr c 0 t := by
  have key : ∀ (f g : Vec F S512x2048 .f32), (∀ (r : Fin 512) (d : Fin 2048), f (ix2 r d) = g (ix2 r d)) → f = g := fun f g h =>
    funext fun y => by
      obtain ⟨r, d, rfl⟩ : ∃ (r : Fin 512) (d : Fin 2048), y = ix2 r d := ⟨y 0, y 1, eq_ix2 y⟩
      exact h r d
  refine key _ _ fun r d => ?_
  refine (rows_at V pf hr c t' r d).trans (Eq.trans ?_ (rows_at V pf hr c t r d).symm)
  congr 2; exact Fin.ext (by show 512 * min (t'.val / 14) (count pf - 1) + r.val = _; rw [h])

/-! ## What the output's block holds -/

/-- One tile of the hidden width added to `y`. -/
def step (c : Dev nD) (t : Fin (cfgM pf hr).N) (y : Vec F S512x2048 .f32) : Vec F S512x2048 .f32 :=
  k0_pay3 y (k0_pay1 (iblk V pf hr c 0 t)) (iblk V pf hr c 1 t) (iblk V pf hr c 2 t) (iblk V pf hr c 3 t)

/-- What the output's buffer holds after point `n`. -/
def acc (c : Dev nD) : (n : ℕ) → n < (cfgM pf hr).N → Vec F S512x2048 .f32
  | 0, hn => step V pf hr c ⟨0, hn⟩ (k0_pay2 (F := F))
  | n + 1, hn =>
    if (n + 1) / 14 < count pf then
      step V pf hr c ⟨n + 1, hn⟩ (if (n + 1) % 14 = 0 then k0_pay2 (F := F) else acc c n (Nat.lt_of_succ_lt hn))
    else acc c n (Nat.lt_of_succ_lt hn)

theorem acc_first (c : Dev nD) (n : ℕ) (hn : n < (cfgM pf hr).N) (h : n / 14 < count pf) (h0 : n % 14 = 0) :
    acc V pf hr c n hn = step V pf hr c ⟨n, hn⟩ (k0_pay2 (F := F)) := by
  cases n with
  | zero => rfl
  | succ n => rw [acc, if_pos h, if_pos h0]

theorem acc_next (c : Dev nD) (n : ℕ) (hn : n < (cfgM pf hr).N) (h : n / 14 < count pf) (h0 : ¬ n % 14 = 0) :
    acc V pf hr c n hn = step V pf hr c ⟨n, hn⟩ (acc V pf hr c (n - 1) (by omega)) := by
  cases n with
  | zero => exact absurd rfl h0
  | succ n => rw [acc, if_pos h, if_neg h0]; rfl

theorem acc_dead (c : Dev nD) (n : ℕ) (hn : n < (cfgM pf hr).N) (h : ¬ n / 14 < count pf) :
    acc V pf hr c n hn = acc V pf hr c (n - 1) (by omega) := by
  cases n with
  | zero => exact absurd (lt_of_lt_of_le (by decide : 0 / 14 < 1) hr.one_le) h
  | succ n => rw [acc, if_neg h]; rfl

/-! ## The proof data -/

/-- What the scratch holds before point `n`: within a live row tile, the tile's rows, rounded. -/
def Kept (c : Dev nD) (n : ℕ) (s : Vec F S512x2048 .bf16) : Prop :=
  ∀ h : n - 1 < (cfgM pf hr).N, n % 14 ≠ 0 → n / 14 < count pf → s = k0_pay1 (iblk V pf hr c 0 ⟨n - 1, h⟩)

/-- The invariant before point `n`: the tables, the generator's register, the scratch as `Kept` says. -/
def Phi (c : Dev nD) (n : ℕ) : sProp 𝕄 :=
  iprop(Pipeline.ΦT pre0 pf c ∗ (∃ r, prngReg c r) ∗ ∃ s, ⌜Kept V pf hr c n s⌝ ∗ owns (c : Thread nD τ) (Memref.whole cc0_scratch0) fullShare s)

/-- The proof data on core `c`. -/
def dats (_ : Fin 1) (c : Dev nD) : Dat τ (Elt F) Unit ℕ (UR sig nD τ) ℕ (cfgM pf hr) c where
  A w := V c (Pipeline.arrRef spec0 w)
  after w t := match w with
    | ⟨0, _⟩ => iblk V pf hr c 0 t
    | ⟨1, _⟩ => iblk V pf hr c 1 t
    | ⟨2, _⟩ => iblk V pf hr c 2 t
    | ⟨3, _⟩ => iblk V pf hr c 3 t
    | ⟨4, _⟩ => acc V pf hr c t.val t.isLt
  Φ t := Phi V pf hr c t.val
  q _ := fullShare
  owed _ := 0

theorem A_eq (c : Dev nD) (w : Fin (cfgM pf hr).W) : (dats V pf hr 0 c).A w = V c (Pipeline.arrRef spec0 w) := by
  dsimp only [dats]

theorem after0 (c : Dev nD) (t : Fin (cfgM pf hr).N) : (dats V pf hr 0 c).after 0 t = iblk V pf hr c 0 t := rfl
theorem after1 (c : Dev nD) (t : Fin (cfgM pf hr).N) : (dats V pf hr 0 c).after 1 t = iblk V pf hr c 1 t := rfl
theorem after2 (c : Dev nD) (t : Fin (cfgM pf hr).N) : (dats V pf hr 0 c).after 2 t = iblk V pf hr c 2 t := rfl
theorem after3 (c : Dev nD) (t : Fin (cfgM pf hr).N) : (dats V pf hr 0 c).after 3 t = iblk V pf hr c 3 t := rfl
theorem after4 (c : Dev nD) (t : Fin (cfgM pf hr).N) : (dats V pf hr 0 c).after 4 t = acc V pf hr c t.val t.isLt := rfl

/-- Every input's current staging buffer holds its block at every point. -/
theorem before0 (c : Dev nD) (t : Fin (cfgM pf hr).N) (d) : (dats V pf hr 0 c).before 0 t d = iblk V pf hr c 0 t :=
  ((dats V pf hr 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM pf hr).N) (d) : (dats V pf hr 0 c).before 1 t d = iblk V pf hr c 1 t :=
  ((dats V pf hr 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM pf hr).N) (d) : (dats V pf hr 0 c).before 2 t d = iblk V pf hr c 2 t :=
  ((dats V pf hr 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM pf hr).N) (d) : (dats V pf hr 0 c).before 3 t d = iblk V pf hr c 3 t :=
  ((dats V pf hr 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- Past the first point of a row tile the output's buffer holds what the point before left. -/
theorem before4 (c : Dev nD) (t : Fin (cfgM pf hr).N) (d) (h : ¬ (t.val % 14 = 0 ∧ t.val / 14 < count pf)) :
    (dats V pf hr 0 c).before 4 t d = acc V pf hr c (t.val - 1) (by have := t.isLt; omega) := by
  have ht := lt_N pf hr t
  rw [Dat.before_out_traj (dats V pf hr 0 c) 4 rfl (fun _ _ => rfl) (fun t hz hi _ => ?_) t.val t rfl d, fresh4 pf hr _ (Nat.le_of_lt t.isLt),
    if_neg (by simp only [decide_eq_true_eq]; omega), after4]
  rw [idle4, decide_eq_true_eq] at hi
  rw [after4, after4]
  exact acc_dead V pf hr c t.val t.isLt hi

end Cert.Expert

end
-- ==== Proof.ExpertRun.lean ====
/-
  The expert kernel's run: the body obligation at every grid point, and the launch.
-/
module

public import proofs.«01_k».proof.Proof.ExpertData
public import Idealize.ShloMosaic.Lib.Claim

@[expose] public section

set_option maxRecDepth 16384

noncomputable section

namespace Cert.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
  (pf : pre0.Contents (Elt F)) (hr : Routed pf)

/-- Each window's current staging buffer at point `t`. -/
abbrev ms0 (t : Fin (cfgM pf hr).N) : Memref sig .tc .vmem S512x2048 .f32 := spec0_0.stage ((cfgM pf hr).slots t 0)
abbrev ms1 (t : Fin (cfgM pf hr).N) : Memref sig .tc .vmem S1x2048x512 .bf16 := spec0_1.stage ((cfgM pf hr).slots t 1)
abbrev ms2 (t : Fin (cfgM pf hr).N) : Memref sig .tc .vmem S1x2048x512 .bf16 := spec0_2.stage ((cfgM pf hr).slots t 2)
abbrev ms3 (t : Fin (cfgM pf hr).N) : Memref sig .tc .vmem S1x512x2048 .bf16 := spec0_3.stage ((cfgM pf hr).slots t 3)
abbrev ms4 (t : Fin (cfgM pf hr).N) : Memref sig .tc .vmem S512x2048 .f32 := spec0_4.stage ((cfgM pf hr).slots t 4)

/-- The body as the pipeline calls it at point `t`. -/
def bodyAt (t : Fin (cfgM pf hr).N) : Prog (TpuEff nD τ sig (Elt F) Λ₀ .tc) PUnit :=
  cc0_moe_ffn (F := F) (grid0.coords t) (Memref.whole main_v14) (Memref.isWhole_whole _) (Memref.whole main_arg2) (Memref.isWhole_whole _)
    (ms0 pf hr t) (hstage0_0 (((cfgM pf hr).slots t 0).cast nbuf0_0)) (ms1 pf hr t) (hstage0_1 (((cfgM pf hr).slots t 1).cast nbuf0_1))
    (ms2 pf hr t) (hstage0_2 (((cfgM pf hr).slots t 2).cast nbuf0_2)) (ms3 pf hr t) (hstage0_3 (((cfgM pf hr).slots t 3).cast nbuf0_3))
    (Memref.whole main_v15) (Memref.isWhole_whole _) (ms4 pf hr t) (hstage0_4 (((cfgM pf hr).slots t 4).cast nbuf0_4))
    (Memref.whole cc0_scratch0) (Memref.isWhole_whole _)

theorem defs₀_row (t : Fin (cfgM pf hr).N) :
    defs₀ (F := F) .tc (cfgM pf hr).body ((cfgM pf hr).bodyArgs t ((cfgM pf hr).slots t)) = bodyAt pf hr t := by
  unfold defs₀; rw [Defs.onTc_tc]; rfl

/-- The tables' halves, table by table. -/
theorem tables_eq (c : Dev nD) : (Pipeline.ΦT pre0 pf c : sProp 𝕄)
    = iprop(((c : Thread nD τ).loc main_v14 ↦{fullShare.right} pf 0) ∗ owns (c : Thread nD τ) (Memref.whole main_arg2) fullShare.right (pf 1)) := by
  unfold Pipeline.ΦT Pipeline.prefHeld
  refine (bigSep_univ_eq_bigSepL [(0 : Fin 2), (1 : Fin 2)] (by decide) (by decide) _).trans ?_
  exact congrArg (fun X : sProp 𝕄 => iprop(((c : Thread nD τ).loc main_v14 ↦{fullShare.right} pf 0) ∗ X)) (owns_whole (c : Thread nD τ) main_arg2 fullShare.right (pf 1)).symm

theorem leaves0 (c : Dev nD) (t : Fin (cfgM pf hr).N) : (dats V pf hr 0 c).leavesExact 0 t = (owns (c : Thread nD τ) (ms0 pf hr t) fullShare (iblk V pf hr c 0 t) : sProp 𝕄) := rfl
theorem leaves1 (c : Dev nD) (t : Fin (cfgM pf hr).N) : (dats V pf hr 0 c).leavesExact 1 t = (owns (c : Thread nD τ) (ms1 pf hr t) fullShare (iblk V pf hr c 1 t) : sProp 𝕄) := rfl
theorem leaves2 (c : Dev nD) (t : Fin (cfgM pf hr).N) : (dats V pf hr 0 c).leavesExact 2 t = (owns (c : Thread nD τ) (ms2 pf hr t) fullShare (iblk V pf hr c 2 t) : sProp 𝕄) := rfl
theorem leaves3 (c : Dev nD) (t : Fin (cfgM pf hr).N) : (dats V pf hr 0 c).leavesExact 3 t = (owns (c : Thread nD τ) (ms3 pf hr t) fullShare (iblk V pf hr c 3 t) : sProp 𝕄) := rfl

/-- The output's buffer at what the body leaves there is the pipeline's post for it, idle point or not. -/
theorem leaves4 (c : Dev nD) (t : Fin (cfgM pf hr).N) :
    (owns (c : Thread nD τ) (ms4 pf hr t) fullShare (acc V pf hr c t.val t.isLt) : sProp 𝕄) ⊢ (dats V pf hr 0 c).leavesExact 4 t := by
  by_cases hl : t.val / 14 < count pf
  · have hi : (cfgM pf hr).idle 4 ((cfgM pf hr).grid.coords t) = false := by rw [idle4]; simp only [hl, not_true_eq_false, decide_false]
    unfold Dat.leavesExact; rw [hi]
    exact .rfl
  · have hi : (cfgM pf hr).idle 4 ((cfgM pf hr).grid.coords t) = true := by rw [idle4]; simp only [hl, not_false_eq_true, decide_true]
    unfold Dat.leavesExact; rw [hi]
    cases hf : ((cfgM pf hr).win 4).flush t
    · dsimp only
      iintro H
      iexists (acc V pf hr c t.val t.isLt)
      rw [show (dats V pf hr 0 c).before 4 t (acc V pf hr c t.val t.isLt) = acc V pf hr c t.val t.isLt from
        (before4 V pf hr c t _ (by omega)).trans (acc_dead V pf hr c t.val t.isLt hl).symm]
      iexact H
    · exact .rfl

/-- What the body is called with at point `t`, and what it returns. -/
def bodyPre (c : Dev nD) (t : Fin (cfgM pf hr).N) : sProp 𝕄 :=
  iprop((dats V pf hr 0 c).Φ t.castSucc ∗ (dats V pf hr 0 c).owesAt () t.castSucc
    ∗ (∃ d, owns (c : Thread nD τ) (ms0 pf hr t) fullShare ((dats V pf hr 0 c).before 0 t d))
    ∗ (∃ d, owns (c : Thread nD τ) (ms1 pf hr t) fullShare ((dats V pf hr 0 c).before 1 t d))
    ∗ (∃ d, owns (c : Thread nD τ) (ms2 pf hr t) fullShare ((dats V pf hr 0 c).before 2 t d))
    ∗ (∃ d, owns (c : Thread nD τ) (ms3 pf hr t) fullShare ((dats V pf hr 0 c).before 3 t d))
    ∗ (∃ d, owns (c : Thread nD τ) (ms4 pf hr t) fullShare ((dats V pf hr 0 c).before 4 t d)))
def bodyPost (c : Dev nD) (t : Fin (cfgM pf hr).N) : sProp 𝕄 :=
  iprop((dats V pf hr 0 c).Φ t.succ ∗ (dats V pf hr 0 c).owesAt () t.succ
    ∗ (dats V pf hr 0 c).leavesExact 0 t ∗ (dats V pf hr 0 c).leavesExact 1 t ∗ (dats V pf hr 0 c).leavesExact 2 t
    ∗ (dats V pf hr 0 c).leavesExact 3 t ∗ (dats V pf hr 0 c).leavesExact 4 t)

set_option maxHeartbeats 1600000 in
/-- The body at any point. -/
theorem sound_body (c : Dev nD) (t : Fin (cfgM pf hr).N) :
    bodyPre V pf hr c t ⊢ wp frame (wpE (defs₀ (F := F)) Variants.none c none) Set.univ (bodyAt pf hr t) (fun _ => bodyPost V pf hr c t) := by
  have ht := lt_N pf hr t
  have h1 := cond1_iff pf hr (grid0.coords t)
  have h2 := cond2_iff (grid0.coords t)
  rw [coords0] at h1
  rw [coords1] at h2
  unfold bodyPre bodyPost bodyAt
  simp only [before0, before1, before2, before3]
  rw [show (dats V pf hr 0 c).owesAt () t.succ = (dats V pf hr 0 c).owesAt () t.castSucc from rfl,
    show (dats V pf hr 0 c).Φ t.succ = Phi V pf hr c (t.val + 1) from rfl,
    show (dats V pf hr 0 c).Φ t.castSucc = Phi V pf hr c t.val from rfl, leaves0, leaves1, leaves2, leaves3]
  unfold Phi
  rw [tables_eq]
  by_cases hl : t.val / 14 < count pf
  · by_cases hj : t.val % 14 = 0
    · iintro ⟨⟨⟨HT0, HT1⟩, Hg, ⟨%s, %hs, HS⟩⟩, Ho, ⟨%d0, H0⟩, ⟨%d1, H1⟩, ⟨%d2, H2⟩, ⟨%d3, H3⟩, ⟨%d4, H4⟩⟩
      iapply (run_first c (grid0.coords t) fullShare.right (pf 1) _ _ _ _ _ _ _ _ _ _ _ _ _ _ _ _ _ _ (h1.mpr hl) (h2.mpr hj)
        (iblk V pf hr c 0 t) (iblk V pf hr c 1 t) (iblk V pf hr c 2 t) (iblk V pf hr c 3 t) Set.univ _)
      isplitl [HT1]; · iexact HT1
      isplitl [H0]; · iexact H0
      isplitl [H1]; · iexact H1
      isplitl [H2]; · iexact H2
      isplitl [H3]; · iexact H3
      isplitl [H4]; · iexists _; iexact H4
      isplitl [HS]; · iexists _; iexact HS
      iintro ⟨HT1, H0, H1, H2, H3, H4, HS⟩
      isplitl [HT0 HT1 Hg HS]
      · isplitl [HT0 HT1]
        · isplitl [HT0] <;> iassumption
        isplitl [Hg]; · iexact Hg
        iexists _
        isplitr
        swap; · iexact HS
        ipureintro
        intro _ _ _; rfl
      isplitl [Ho]; · iexact Ho
      isplitl [H0]; · iexact H0
      isplitl [H1]; · iexact H1
      isplitl [H2]; · iexact H2
      isplitl [H3]; · iexact H3
      iapply (leaves4 V pf hr c t)
      rw [acc_first V pf hr c t.val t.isLt hl hj]
      iexact H4
    · iintro ⟨⟨⟨HT0, HT1⟩, Hg, ⟨%s, %hs, HS⟩⟩, Ho, ⟨%d0, H0⟩, ⟨%d1, H1⟩, ⟨%d2, H2⟩, ⟨%d3, H3⟩, ⟨%d4, H4⟩⟩
      have hs' : s = k0_pay1 (iblk V pf hr c 0 t) :=
        (hs (by have := t.isLt; omega) hj hl).trans (by
          rw [rows_same V pf hr c t ⟨t.val - 1, by have := t.isLt; omega⟩ (by show (t.val - 1) / 14 = t.val / 14; omega)])
      rw [before4 V pf hr c t d4 (by omega), hs']
      iapply (run_next c (grid0.coords t) fullShare.right (pf 1) _ _ _ _ _ _ _ _ _ _ _ _ _ _ _ _ _ _ (h1.mpr hl) (fun h => hj (h2.mp h))
        (iblk V pf hr c 1 t) (iblk V pf hr c 2 t) (iblk V pf hr c 3 t) (acc V pf hr c (t.val - 1) (by have := t.isLt; omega)) (k0_pay1 (iblk V pf hr c 0 t)) Set.univ _)
      isplitl [HT1]; · iexact HT1
      isplitl [H1]; · iexact H1
      isplitl [H2]; · iexact H2
      isplitl [H3]; · iexact H3
      isplitl [H4]; · iexact H4
      isplitl [HS]; · iexact HS
      iintro ⟨HT1, H1, H2, H3, H4, HS⟩
      isplitl [HT0 HT1 Hg HS]
      · isplitl [HT0 HT1]
        · isplitl [HT0] <;> iassumption
        isplitl [Hg]; · iexact Hg
        iexists _
        isplitr
        swap; · iexact HS
        ipureintro
        intro _ _ _; rfl
      isplitl [Ho]; · iexact Ho
      isplitl [H0]; · iexact H0
      isplitl [H1]; · iexact H1
      isplitl [H2]; · iexact H2
      isplitl [H3]; · iexact H3
      iapply (leaves4 V pf hr c t)
      rw [acc_next V pf hr c t.val t.isLt hl hj]
      iexact H4
  · iintro ⟨⟨⟨HT0, HT1⟩, Hg, ⟨%s, %hs, HS⟩⟩, Ho, ⟨%d0, H0⟩, ⟨%d1, H1⟩, ⟨%d2, H2⟩, ⟨%d3, H3⟩, ⟨%d4, H4⟩⟩
    rw [before4 V pf hr c t d4 (by omega)]
    iapply (run_dead c (grid0.coords t) fullShare.right (pf 1) _ _ _ _ _ _ _ _ _ _ _ _ _ _ _ _ _ _ (fun h => hl (h1.mp h)) Set.univ _)
    isplitl [HT1]; · iexact HT1
    iintro HT1
    isplitl [HT0 HT1 Hg HS]
    · isplitl [HT0 HT1]
      · isplitl [HT0] <;> iassumption
      isplitl [Hg]; · iexact Hg
      iexists _
      isplitr
      swap; · iexact HS
      ipureintro
      intro _ h h'; exact absurd h' (by omega)
    isplitl [Ho]; · iexact Ho
    isplitl [H0]; · iexact H0
    isplitl [H1]; · iexact H1
    isplitl [H2]; · iexact H2
    isplitl [H3]; · iexact H3
    iapply (leaves4 V pf hr c t)
    rw [acc_dead V pf hr c t.val t.isLt hl]
    iexact H4

/-- The library's body obligation, at every point. -/
theorem body_obligation (c : Dev nD) : BodyObligation (dats V pf hr 0 c) (defs₀ (F := F)) Variants.none () Set.univ := fun t => by
  rw [bigSep_W0, bigSep_W0, defs₀_row pf hr]
  exact triple_restated (sound_body V pf hr c t) rfl .rfl fun _ => .rfl

/-- What the launch hands the region is the invariant before the first point. -/
theorem hin (c : Dev nD) : iprop(Pipeline.ΦA spec0 c ∗ Pipeline.ΦT pre0 pf c) ⊢ (dats V pf hr 0 c).Φ 0 := by
  rw [show (dats V pf hr 0 c).Φ 0 = Phi V pf hr c 0 from rfl]
  unfold Phi Pipeline.ΦA
  rw [scopedRest0_eq]
  simp only [owns_whole_eq]
  iintro ⟨⟨⟨%f, HS⟩, Hg⟩, HT⟩
  isplitl [HT]; · iexact HT
  isplitl [Hg]; · iexact Hg
  iexists f
  isplitr
  · ipureintro
    intro _ h; exact absurd rfl h
  iexists f
  isplitr
  · ipureintro; rfl
  iexact HS

/-- After the last point the invariant gives the scratch and the register back. -/
theorem hout (c : Dev nD) : (dats V pf hr 0 c).Φ (Fin.last (cfgM pf hr).N) ⊢ Pipeline.ΦA spec0 c := by
  rw [show (dats V pf hr 0 c).Φ (Fin.last (cfgM pf hr).N) = Phi V pf hr c (cfgM pf hr).N from rfl]
  unfold Phi Pipeline.ΦA
  rw [scopedRest0_eq]
  simp only [owns_whole_eq]
  iintro ⟨-, Hg, ⟨%s, -, ⟨%f, -, HS⟩⟩⟩
  isplitl [HS]
  · iexists f; iexact HS
  iexact Hg

end Cert.Expert

end
-- ==== Proof.ExpertLaunch.lean ====
/-
  The expert kernel's launch: the host lines before the region, the tables as the region finds them, and the
  run of the whole program, for any float values.
-/
module

public import proofs.«01_k».proof.Proof.ExpertRun
public import proofs.«01_k».proof.Proof.Gen.KernelIdeal.Launch

@[expose] public section

set_option maxRecDepth 16384

noncomputable section

namespace Cert.Expert

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- A buffer when the region begins: what the host lines leave in it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host lines, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Argument 0 is as launched. -/
theorem V_arg0 (c : Dev nD) : V m c main_arg0 = m ((c : Thread nD τ).loc main_arg0) := by
  unfold V hostOps0; after_results
theorem V_arg1 (c : Dev nD) : V m c main_arg1 = m ((c : Thread nD τ).loc main_arg1) := by
  unfold V hostOps0; after_results
theorem V_arg2 (c : Dev nD) : V m c main_arg2 = m ((c : Thread nD τ).loc main_arg2) := by
  unfold V hostOps0; after_results
theorem V_arg3 (c : Dev nD) : V m c main_arg3 = m ((c : Thread nD τ).loc main_arg3) := by
  unfold V hostOps0; after_results
theorem V_arg4 (c : Dev nD) : V m c main_arg4 = m ((c : Thread nD τ).loc main_arg4) := by
  unfold V hostOps0; after_results
theorem V_arg5 (c : Dev nD) : V m c main_arg5 = m ((c : Thread nD τ).loc main_arg5) := by
  unfold V hostOps0; after_results

/-- The tables the region reads. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

set_option backward.isDefEq.respectTransparency.types false in
/-- The run: every execution ends, the arrays as the proof data say, the rest as the region found it, the counters
    at zero. -/
theorem run_main (hr : Routed (tbl m)) : θ_run defs (onTc (τ := τ) (main (F := F))) ⟨m, fun _ => 0, ρ⟩ (fun r =>
    Pipeline.FramePost (Pipeline.pin pcfgs fun _ => adm (tbl m) hr) (dats (V m) (tbl m) hr) 0 (V m) r ∧ r.2.sem = fun _ => 0) :=
  Pipeline.θ_run_frameP_track (Q' := _) pcfgs (fun _ => adm (tbl m) hr) (dats (V m) (tbl m) hr) (0 : Fin 1) launch0 defs₀ Variants.none m ρ main
    (hbody := fun c => (body_obligation (V m) (tbl m) hr c).loose) (hshare := fun c => (dats (V m) (tbl m) hr 0 c).share_full fun _ => rfl)
    (howed := fun _ _ => rfl) (V := V m) (hmain := hmain m Variants.none) (hA := A_eq (V m) (tbl m) hr) (hpf := V_pre m)
    (hin := hin (V m) (tbl m) hr) (hout := hout (V m) (tbl m) hr)

/-- The frame, and the result array as the proof data say. -/
theorem run_result (hr : Routed (tbl m)) : θ_run defs (onTc (τ := τ) (main (F := F))) ⟨m, fun _ => 0, ρ⟩ (fun r =>
    (∀ c : Dev nD, r.2.mem ((c : Thread nD τ).loc main_v16) = (dats (V m) (tbl m) hr 0 c).arrAt 4 (cfgM (tbl m) hr).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0) :=
  (θ_run defs _ _).mono (fun r h => ⟨fun c =>
    ⟨((h.1 c).1 4),
      (((h.1 c).1 0).trans ((dats (V m) (tbl m) hr 0 c).arrAt_in 0 rfl _)).trans ((A_eq (V m) (tbl m) hr c 0).trans (V_arg0 m c)),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c),
      ((h.1 c).2 main_arg5 (by decide : main_arg5 ∈ Pipeline.restRefs sig spec0)).trans (V_arg5 m c)⟩, h.2⟩) (run_main m ρ hr)

end Cert.Expert

end
-- ==== Proof.ExpertRouted.lean ====
/-
  The two tables the region reads, from the arguments: the tile count is argument 2, and a tile's expert is the
  entry of argument 1 at the tile, or at the last live tile for a tile past the count.
-/
module

public import proofs.«01_k».proof.Proof.ExpertLaunch
public import proofs.«01_k».proof.Pre_routed
public import proofs.«01_k».proof.Proof.Gen.Pre_routed
public import Idealize.ShloMosaic.Lib.Routing.OpsSearch

@[expose] public section

set_option maxRecDepth 16384

noncomputable section

namespace Cert.Expert

open Cert.KernelIdeal Cert.KernelIdeal.Gen
open Idealize.ShloMosaic Idealize.ShloMosaic.TcCoe Idealize.ShloMosaic.Tactic
open Idealize.ShloMosaic.WordCmp

variable {F : FTy → Type} [FloatOps F]

/-- The smaller of each tile's number and the last live tile's, as the host computes it. -/
def lastTile (n : IVec S1 32) : IVec S76 32 :=
  minsi (iotaInDim S76 32 0) (broadcastInDim S76 ![] bcast_S_S76 (subi (shapeCast S_ n shapeCasts_S1_S_) (constantI S_ 32 1#32)))

/-- The column of places at which the host reads the experts' table: an index below zero would count from the end. -/
def places (n : IVec S1 32) : IVec S76x1 32 :=
  broadcastInDim S76x1 ![0] bcast_S76_S76x1_0
    (select (cmpi .slt (lastTile n) (broadcastInDim S76 ![] bcast_S_S76 (constantI S_ 32 0#32)))
      (addi (lastTile n) (broadcastInDim S76 ![] bcast_S_S76 (constantI S_ 32 76#32))) (lastTile n))

/-- The host's number for a tile. -/
theorem lastTile_at (n : IVec S1 32) (x : S1.Idx) (h1 : 1 ≤ (n x).toNat) (h2 : (n x).toNat < 2 ^ 31) (t : Fin 76) (y : S76.Idx) (hy : (y 0).val = t.val) :
    lastTile n y = BitVec.ofNat 32 (min t.val ((n x).toNat - 1)) := by
  have e : shapeCast S_ n shapeCasts_S1_S_ = fun _ => n x := by
    funext z
    exact congrArg n (funext fun a => Fin.ext (by
      fin_cases a
      have a1 : ∀ w : S1.Idx, (w 0).val = 0 := fun w => Nat.lt_one_iff.mp (w 0).isLt
      exact (a1 _).trans (a1 _).symm))
  unfold lastTile
  rw [e]
  have hm := min_tile (n x).toNat t.val h1 h2 t.isLt
  rw [← hm, BitVec.ofNat_toNat, BitVec.setWidth_eq]
  show IntOp.minsi (BitVec.ofNat 32 (y 0).val) (IntOp.subi (n x) 1#32) = _
  rw [hy, BitVec.ofNat_toNat, BitVec.setWidth_eq]
  rfl

theorem places_at (n : IVec S1 32) (x : S1.Idx) (h1 : 1 ≤ (n x).toNat) (h2 : (n x).toNat < 2 ^ 31) (t : Fin 76) :
    places n (ix2 t (0 : Fin 1)) = BitVec.ofNat 32 (min t.val ((n x).toNat - 1)) := by
  have hl : ∀ y : S76.Idx, (y 0).val = t.val → lastTile n y = BitVec.ofNat 32 (min t.val ((n x).toNat - 1)) := fun y hy => lastTile_at n x h1 h2 t y hy
  have key : ∀ y : S76.Idx, (y 0).val = t.val →
      select (cmpi .slt (lastTile n) (broadcastInDim S76 ![] bcast_S_S76 (constantI S_ 32 0#32)))
      (addi (lastTile n) (broadcastInDim S76 ![] bcast_S_S76 (constantI S_ 32 76#32))) (lastTile n) y = BitVec.ofNat 32 (min t.val ((n x).toNat - 1)) := by
    intro y hy
    show Scalar.select (IntOp.cmpi .slt (lastTile n y) 0#32) (IntOp.addi (lastTile n y) 76#32) (lastTile n y) = _
    rw [hl y hy]
    have : IntOp.cmpi .slt (BitVec.ofNat 32 (min t.val ((n x).toNat - 1))) 0#32 = 0#1 := by
      rw [cmpi_slt_zero]
      have ht := t.isLt
      have : (BitVec.ofNat 32 (min t.val ((n x).toNat - 1))).toNat < 2 ^ 31 := by rw [BitVec.toNat_ofNat]; omega
      have hn : ¬ 2 ^ (32 - 1) ≤ (BitVec.ofNat 32 (min t.val ((n x).toNat - 1))).toNat := by omega
      simp only [hn, decide_false]; rfl
    rw [this]; rfl
  exact key _ rfl

/-- The experts' table the region reads, entry by entry. -/
theorem gathered (e : IVec S76 32) (n : IVec S1 32) (x : S1.Idx) (h1 : 1 ≤ (n x).toNat) (h2 : (n x).toNat < 2 ^ 31) (t : Fin 76) :
    Host.gather gather_S76_S76x1_S76_n_0_n_n_0_1_1 e (places n) (ix1 t) = e (ix1 ⟨min t.val ((n x).toNat - 1), lt_of_le_of_lt (min_le_left _ _) t.isLt⟩) :=
  Routing.take_ap gather_S76_S76x1_S76_n_0_n_n_0_1_1 rfl rfl rfl rfl e (places n) t _ (by have := t.isLt; omega) (places_at n x h1 h2 t)

variable (m : (ℓ : Loc nD τ sig) → Buf (Elt F) ℓ)

theorem V_experts (c : Dev nD) : V m c main_v14 = (Host.gather gather_S76_S76x1_S76_n_0_n_n_0_1_1
    (m ((c : Thread nD τ).loc main_arg1) : IVec S76 32) (places (m ((c : Thread nD τ).loc main_arg2))) : IVec S76 32) := by
  unfold V hostOps0; after_results; rfl

/-- The tile count: the one entry of argument 2. -/
def live (m : (ℓ : Loc nD τ sig) → Buf (Elt F) ℓ) (c : Dev nD) : ℕ := BitVec.toNat ((m ((c : Thread nD τ).loc main_arg2) : IVec S1 32) (ix1 0))
/-- A tile's expert: the tile's entry of argument 1. -/
def chosen (m : (ℓ : Loc nD τ sig) → Buf (Elt F) ℓ) (c : Dev nD) (t : Fin 76) : ℕ := BitVec.toNat ((m ((c : Thread nD τ).loc main_arg1) : IVec S76 32) (ix1 t))

theorem count_tbl : count (tbl m) = live m 0 := by
  unfold count live
  refine (congrArg BitVec.toNat (count_at (F := F) (tbl m 1) (ix1 0)).symm).trans ?_
  exact congrArg (fun w : IVec S1 32 => BitVec.toNat (w (ix1 0))) (V_arg2 m 0)

theorem expert_tbl (h1 : 1 ≤ live m 0) (h2 : live m 0 < 2 ^ 31) (t : Fin 76) :
    expert (tbl m) t = chosen m 0 ⟨min t.val (live m 0 - 1), lt_of_le_of_lt (min_le_left _ _) t.isLt⟩ := by
  have e : (tbl m 0 : IVec S76 32) = _ := V_experts m 0
  unfold expert chosen
  refine congrArg BitVec.toNat ?_
  refine (congrFun e _).trans ?_
  refine Eq.trans (congrArg _ (show _ = ix1 t from funext fun a => by fin_cases a; rfl)) ?_
  exact gathered _ _ (ix1 0) h1 h2 t

/-- The precondition: at least one live tile, and every tile's expert one of the eight. -/
def Ranged (e : IVec S76 32) (n : IVec S1 32) : Prop :=
  (1 ≤ (n (ix1 0)).toNat ∧ (n (ix1 0)).toNat < 2 ^ 31) ∧ ∀ t : Fin 76, (e (ix1 t)).toNat < 8

theorem ranged (a0 : FVec F S38912x2048 .f32) (e : IVec S76 32) (n : IVec S1 32) (a3 a4 : FVec F S8x2048x7168 .f32) (a5 : FVec F S8x7168x2048 .f32)
    (h : Cert.Pre_routed.fn (F := F) a0 e n a3 a4 a5 = fun _ => 1#1) : Ranged e n := by
  have key : ∀ t : Fin 76, (1 ≤ (n (ix1 0)).toNat ∧ (n (ix1 0)).toNat < 2 ^ 31) ∧ (e (ix1 t)).toNat < 8 := by
    intro t
    have h' := congrFun h (ix1 t)
    replace h' : IntOp.andi (IntOp.andi (IntOp.cmpi .sge (n (ix1 0)) 1#32) (IntOp.cmpi .sge (e (ix1 t)) 0#32)) (IntOp.cmpi .slt (e (ix1 t)) 8#32) = 1#1 := by
      rw [← h']
      have : ∀ x y : S1.Idx, n x = n y := fun x y => congrArg n (funext fun a => Fin.ext (by
        fin_cases a
        have a1 : ∀ w : S1.Idx, (w 0).val = 0 := fun w => Nat.lt_one_iff.mp (w 0).isLt
        exact (a1 _).trans (a1 _).symm))
      rw [this (ix1 0) _]
      rfl
    generalize n (ix1 0) = w at h' ⊢
    generalize e (ix1 t) = v at h' ⊢
    simp only [cmpi_sge_eq, cmpi_slt_eq, andi_ofBool, ofBool_eq_one_iff, Bool.and_eq_true, decide_eq_true_eq, BitVec.toInt_eq_toNat_cond, BitVec.toNat_ofNat, Nat.reducePow, Nat.reduceMod] at h'
    have := w.isLt; have := v.isLt
    omega
  exact ⟨(key 0).1, fun t => (key t).2⟩

theorem routed_of (h : Ranged (m (((0 : Dev nD) : Thread nD τ).loc main_arg1)) (m (((0 : Dev nD) : Thread nD τ).loc main_arg2))) : Routed (tbl m) := by
  obtain ⟨⟨h1, h2⟩, h3⟩ := h
  refine ⟨?_, ?_, fun t => ?_⟩
  · rw [count_tbl]; exact h1
  · rw [count_tbl]; exact h2
  · rw [expert_tbl m h1 h2]; exact h3 _

end Cert.Expert

end
-- ==== Proof.ExpertValue.lean ====
/-
  What the expert kernel returns over the reals: a live row goes through its tile's expert, a row past the live
  tiles stays zero.
-/
module

public import proofs.«01_k».proof.Proof.ExpertRouted
public import proofs.«01_k».proof.Proof.Swiglu
public import Idealize.ShloMosaic.Lib.Pipeline.ValueKit

@[expose] public section

set_option maxRecDepth 16384

noncomputable section

namespace Cert.Expert

open Cert.KernelIdeal Cert.KernelIdeal.Gen Cert.Swiglu
open Idealize.ShloMosaic Idealize.ShloMosaic.TcCoe Idealize.ShloMosaic.Tactic
open Idealize.ShloMosaic.Pipeline (Dat Cfg Window)
open scoped BigOperators

/-- Row `r` through expert `e`, at output column `n`. -/
def through (x : FVec Ideal S38912x2048 .f32) (wg wu : FVec Ideal S8x2048x7168 .f32) (wd : FVec Ideal S8x7168x2048 .f32)
    (e : Fin 8) (r : Fin 38912) (n : Fin 2048) : EReal :=
  ∑ q : Fin 7168, hidden (fun d : Fin 2048 => x (ix2 r d)) (fun d => wg (ix3 e d q)) (fun d => wu (ix3 e d q)) * wd (ix3 e q n)

/-- The layer: row `r` of a live tile through the tile's expert, zero past the live tiles. -/
def layer (x : FVec Ideal S38912x2048 .f32) (te : IVec S76 32) (nt : IVec S1 32) (wg wu : FVec Ideal S8x2048x7168 .f32)
    (wd : FVec Ideal S8x7168x2048 .f32) (r : Fin 38912) (n : Fin 2048) : EReal :=
  if r.val / 512 < (nt (ix1 0)).toNat then
    through x wg wu wd (Fin.ofNat 8 (te (ix1 ⟨r.val / 512, by omega⟩)).toNat) r n
  else 0

/-! ## The payloads at an index -/

theorem pay1_at (x : Vec Ideal S512x2048 .f32) (r : Fin 512) (d : Fin 2048) : k0_pay1 (F := Ideal) x (ix2 r d) = x (ix2 r d) := by
  pointwise [k0_pay1]

theorem pay2_at (r : Fin 512) (n : Fin 2048) : k0_pay2 (F := Ideal) (ix2 r n) = 0 := by
  pointwise [k0_pay2]

theorem pay3_at (y : Vec Ideal S512x2048 .f32) (x : Vec Ideal S512x2048 .bf16) (g u : Vec Ideal S1x2048x512 .bf16) (w : Vec Ideal S1x512x2048 .bf16)
    (r : Fin 512) (n : Fin 2048) :
    k0_pay3 (F := Ideal) y x g u w (ix2 r n) = y (ix2 r n)
      + ∑ k : Fin 512, hidden (fun d : Fin 2048 => x (ix2 r d)) (fun d => g (ix3 0 d k)) (fun d => u (ix3 0 d k)) * w (ix3 0 k n) := by
  pointwise [k0_pay3]
  simp only [hidden_zero_sub]

/-! ## The blocks -/

variable (m : (ℓ : Loc nD τ sig) → Buf (Elt Ideal) ℓ) (hr : Routed (tbl m))

theorem V_gate (c : Dev nD) : V m c main_v0 = (truncf (F := Ideal) .bf16 (m ((c : Thread nD τ).loc main_arg3)) bitsLt_bf16_f32 : FVec Ideal S8x2048x7168 .bf16) := by
  unfold V hostOps0; after_results
theorem V_up (c : Dev nD) : V m c main_v1 = (truncf (F := Ideal) .bf16 (m ((c : Thread nD τ).loc main_arg4)) bitsLt_bf16_f32 : FVec Ideal S8x2048x7168 .bf16) := by
  unfold V hostOps0; after_results
theorem V_down (c : Dev nD) : V m c main_v2 = (truncf (F := Ideal) .bf16 (m ((c : Thread nD τ).loc main_arg5)) bitsLt_bf16_f32 : FVec Ideal S8x7168x2048 .bf16) := by
  unfold V hostOps0; after_results
theorem V_zero (c : Dev nD) : V m c main_v16 = (broadcastInDim S38912x2048 ![] bcast_S_S38912x2048 (constant (F := Ideal) S_ .f32 0x00000000#32) : FVec Ideal S38912x2048 .f32) := by
  unfold V hostOps0; after_results; try rfl

/-- The expert that point `t` reads. -/
abbrev eOf (t : Fin (cfgM (tbl m) hr).N) : Fin 8 := ⟨expert (tbl m) ⟨t.val / 14, by have := lt_N (tbl m) hr t; omega⟩, hr.expert_lt _⟩

theorem index1 (t : Fin (cfgM (tbl m) hr).N) (h : t.val / 14 < count (tbl m)) : ((cfgM (tbl m) hr).win 1).index t = ![(eOf m hr t).val, 0, t.val % 14] := by
  have e : ((cfgM (tbl m) hr).win 1).index t = cc0_transform_1 inb_S1_S1_0 numel1_S1 k0_off1_inb (tbl m) (grid0.coords t) := rfl
  have e0 : grid0.coords t 0 = (⟨t.val / 14, by have := lt_N (tbl m) hr t; omega⟩ : Fin 76) := Fin.ext (coords0 t)
  rw [e, transform_gate (tbl m) hr]; unfold col; rw [e0, coords1]; rw [if_pos h]

theorem index2 (t : Fin (cfgM (tbl m) hr).N) (h : t.val / 14 < count (tbl m)) : ((cfgM (tbl m) hr).win 2).index t = ![(eOf m hr t).val, 0, t.val % 14] := by
  have e : ((cfgM (tbl m) hr).win 2).index t = cc0_transform_2 inb_S1_S1_0 numel1_S1 k0_off1_inb (tbl m) (grid0.coords t) := rfl
  have e0 : grid0.coords t 0 = (⟨t.val / 14, by have := lt_N (tbl m) hr t; omega⟩ : Fin 76) := Fin.ext (coords0 t)
  rw [e, transform_up (tbl m) hr]; unfold col; rw [e0, coords1]; rw [if_pos h]

theorem index3 (t : Fin (cfgM (tbl m) hr).N) (h : t.val / 14 < count (tbl m)) : ((cfgM (tbl m) hr).win 3).index t = ![(eOf m hr t).val, t.val % 14, 0] := by
  have e : ((cfgM (tbl m) hr).win 3).index t = cc0_transform_3 inb_S1_S1_0 numel1_S1 k0_off1_inb (tbl m) (grid0.coords t) := rfl
  have e0 : grid0.coords t 0 = (⟨t.val / 14, by have := lt_N (tbl m) hr t; omega⟩ : Fin 76) := Fin.ext (coords0 t)
  rw [e, transform_down (tbl m) hr]; unfold col; rw [e0, coords1]; rw [if_pos h]

theorem gate_at (c : Dev nD) (t : Fin (cfgM (tbl m) hr).N) (h : t.val / 14 < count (tbl m)) (d : Fin 2048) (k : Fin 512) :
    iblk (V m) (tbl m) hr c 1 t (ix3 0 d k) = m ((c : Thread nD τ).loc main_arg3) (ix3 (eOf m hr t) d ⟨512 * (t.val % 14) + k.val, by omega⟩) := by
  have e := index1 m hr t h
  show V m c main_v0 ((((cfgM (tbl m) hr).win 1).blk t).view.emb (ix3 0 d k)) = _
  have hx : (((cfgM (tbl m) hr).win 1).blk t).view.emb (ix3 0 d k) = (ix3 (eOf m hr t) d ⟨512 * (t.val % 14) + k.val, by omega⟩ : S8x2048x7168.Idx) := by
    funext a
    apply Fin.ext
    fin_cases a
    · show ((cfgM (tbl m) hr).win 1).index t (0 : Fin 3) * 1 + 1 * 0 = (eOf m hr t).val
      rw [e]; show (eOf m hr t).val * 1 + 1 * 0 = _; omega
    · show ((cfgM (tbl m) hr).win 1).index t (1 : Fin 3) * 2048 + 1 * d.val = d.val
      rw [e]; show 0 * 2048 + 1 * d.val = _; omega
    · show ((cfgM (tbl m) hr).win 1).index t (2 : Fin 3) * 512 + 1 * k.val = 512 * (t.val % 14) + k.val
      rw [e]; show t.val % 14 * 512 + 1 * k.val = _; omega
  rw [hx, V_gate]; rfl

theorem up_at (c : Dev nD) (t : Fin (cfgM (tbl m) hr).N) (h : t.val / 14 < count (tbl m)) (d : Fin 2048) (k : Fin 512) :
    iblk (V m) (tbl m) hr c 2 t (ix3 0 d k) = m ((c : Thread nD τ).loc main_arg4) (ix3 (eOf m hr t) d ⟨512 * (t.val % 14) + k.val, by omega⟩) := by
  have e := index2 m hr t h
  show V m c main_v1 ((((cfgM (tbl m) hr).win 2).blk t).view.emb (ix3 0 d k)) = _
  have hx : (((cfgM (tbl m) hr).win 2).blk t).view.emb (ix3 0 d k) = (ix3 (eOf m hr t) d ⟨512 * (t.val % 14) + k.val, by omega⟩ : S8x2048x7168.Idx) := by
    funext a
    apply Fin.ext
    fin_cases a
    · show ((cfgM (tbl m) hr).win 2).index t (0 : Fin 3) * 1 + 1 * 0 = (eOf m hr t).val
      rw [e]; show (eOf m hr t).val * 1 + 1 * 0 = _; omega
    · show ((cfgM (tbl m) hr).win 2).index t (1 : Fin 3) * 2048 + 1 * d.val = d.val
      rw [e]; show 0 * 2048 + 1 * d.val = _; omega
    · show ((cfgM (tbl m) hr).win 2).index t (2 : Fin 3) * 512 + 1 * k.val = 512 * (t.val % 14) + k.val
      rw [e]; show t.val % 14 * 512 + 1 * k.val = _; omega
  rw [hx, V_up]; rfl

theorem down_at (c : Dev nD) (t : Fin (cfgM (tbl m) hr).N) (h : t.val / 14 < count (tbl m)) (k : Fin 512) (n : Fin 2048) :
    iblk (V m) (tbl m) hr c 3 t (ix3 0 k n) = m ((c : Thread nD τ).loc main_arg5) (ix3 (eOf m hr t) ⟨512 * (t.val % 14) + k.val, by omega⟩ n) := by
  have e := index3 m hr t h
  show V m c main_v2 ((((cfgM (tbl m) hr).win 3).blk t).view.emb (ix3 0 k n)) = _
  have hx : (((cfgM (tbl m) hr).win 3).blk t).view.emb (ix3 0 k n) = (ix3 (eOf m hr t) ⟨512 * (t.val % 14) + k.val, by omega⟩ n : S8x7168x2048.Idx) := by
    funext a
    apply Fin.ext
    fin_cases a
    · show ((cfgM (tbl m) hr).win 3).index t (0 : Fin 3) * 1 + 1 * 0 = (eOf m hr t).val
      rw [e]; show (eOf m hr t).val * 1 + 1 * 0 = _; omega
    · show ((cfgM (tbl m) hr).win 3).index t (1 : Fin 3) * 512 + 1 * k.val = 512 * (t.val % 14) + k.val
      rw [e]; show t.val % 14 * 512 + 1 * k.val = _; omega
    · show ((cfgM (tbl m) hr).win 3).index t (2 : Fin 3) * 2048 + 1 * n.val = n.val
      rw [e]; show 0 * 2048 + 1 * n.val = _; omega
  rw [hx, V_down]; rfl

/-! ## What the output's block holds, element by element -/

/-- What one live point adds to its block, read off the arguments. -/
def part (c : Dev nD) (t : Fin (cfgM (tbl m) hr).N) (r : Fin 512) (n : Fin 2048) : EReal :=
  ∑ k : Fin 512, hidden
    (fun d : Fin 2048 => m ((c : Thread nD τ).loc main_arg0) (ix2 ⟨512 * (t.val / 14) + r.val, by have := lt_N (tbl m) hr t; omega⟩ d))
    (fun d => m ((c : Thread nD τ).loc main_arg3) (ix3 (eOf m hr t) d ⟨512 * (t.val % 14) + k.val, by omega⟩))
    (fun d => m ((c : Thread nD τ).loc main_arg4) (ix3 (eOf m hr t) d ⟨512 * (t.val % 14) + k.val, by omega⟩))
    * m ((c : Thread nD τ).loc main_arg5) (ix3 (eOf m hr t) ⟨512 * (t.val % 14) + k.val, by omega⟩ n)

theorem step_at (c : Dev nD) (t : Fin (cfgM (tbl m) hr).N) (h : t.val / 14 < count (tbl m)) (y : Vec Ideal S512x2048 .f32) (r : Fin 512) (n : Fin 2048) :
    step (V m) (tbl m) hr c t y (ix2 r n) = y (ix2 r n) + part m hr c t r n := by
  unfold step
  refine (pay3_at y _ _ _ _ r n).trans (congrArg (y (ix2 r n) + ·) ?_)
  unfold part
  refine Finset.sum_congr rfl fun k _ => congrArg₂ (· * ·) (congr (congr (congrArg Swiglu.hidden (funext fun d => ?_)) (funext fun d => ?_)) (funext fun d => ?_)) ?_
  · refine (pay1_at _ r d).trans ((rows_at (V m) (tbl m) hr c t r d).trans ?_)
    rw [V_arg0]
    congr 2
    exact Fin.ext (by show 512 * min (t.val / 14) (count (tbl m) - 1) + r.val = 512 * (t.val / 14) + r.val; omega)
  · exact gate_at m hr c t h d k
  · exact up_at m hr c t h d k
  · exact down_at m hr c t h k n

/-- After the `j`-th point of a live row tile the block holds the first `j + 1` tiles of the hidden width. -/
theorem acc_at (c : Dev nD) (i : ℕ) (hi : i < count (tbl m)) (r : Fin 512) (n : Fin 2048) :
    ∀ (j : ℕ), j < 14 → (h : 14 * i + j < (cfgM (tbl m) hr).N) →
      acc (V m) (tbl m) hr c (14 * i + j) h (ix2 r n)
        = ∑ s ∈ Finset.range (j + 1), if h : 14 * i + s < (cfgM (tbl m) hr).N then part m hr c ⟨14 * i + s, h⟩ r n else 0
  | 0, hj, h => by
    rw [acc_first (V m) (tbl m) hr c _ h (by omega) (by omega)]
    refine (step_at m hr c _ (by show (14 * i + 0) / 14 < _; omega) _ r n).trans ?_
    rw [pay2_at, zero_add, Finset.sum_range_one, dif_pos h]
  | j + 1, hj, h => by
    rw [acc_next (V m) (tbl m) hr c _ h (by omega) (by omega)]
    refine (step_at m hr c _ (by show (14 * i + (j + 1)) / 14 < _; omega) _ r n).trans ?_
    rw [Finset.sum_range_succ, dif_pos h]
    exact congrArg (· + _) (acc_at c i hi r n j (by omega) (by omega))

/-- Past the live tiles the block stays what the last live one left. -/
theorem acc_tail (c : Dev nD) (hl : 14 * (count (tbl m) - 1) + 13 < (cfgM (tbl m) hr).N) :
    ∀ (k : ℕ) (h : 14 * (count (tbl m) - 1) + 13 + k < (cfgM (tbl m) hr).N),
      acc (V m) (tbl m) hr c (14 * (count (tbl m) - 1) + 13 + k) h = acc (V m) (tbl m) hr c (14 * (count (tbl m) - 1) + 13) hl
  | 0, h => rfl
  | k + 1, h => (acc_dead (V m) (tbl m) hr c _ h (by have := hr.one_le; omega)).trans (acc_tail c hl k (by omega))

/-- The result array: the layer of the arguments. -/
def G (c : Dev nD) : Vec Ideal S38912x2048 .f32 := fun i =>
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

include hr in
/-- A live tile's expert, as the region reads it, is the tile's own. -/
theorem expert_live (t : Fin 76) (h : t.val < count (tbl m)) : expert (tbl m) t = chosen m 0 t := by
  have h1 := hr.one_le
  have h2 := hr.small
  rw [count_tbl] at h h1 h2
  rw [expert_tbl m h1 h2]
  congr 1
  exact Fin.ext (by show min t.val (live m 0 - 1) = t.val; omega)

/-- After a live tile's last point the block holds the layer's rows. -/
theorem acc_full (c : Dev nD) (i : ℕ) (hi : i < count (tbl m)) (h76 : i < 76) (r : Fin 512) (n : Fin 2048) (h : 14 * i + 13 < (cfgM (tbl m) hr).N) :
    acc (V m) (tbl m) hr c (14 * i + 13) h (ix2 r n) = G m c (ix2 ⟨512 * i + r.val, by omega⟩ n) := by
  obtain rfl : c = 0 := Subsingleton.elim _ _
  rw [acc_at m hr 0 i hi r n 13 (by omega) h]
  have hrow : (512 * i + r.val) / 512 = i := by omega
  have hcnt := hi
  rw [count_tbl] at hcnt
  show _ = layer _ _ _ _ _ _ ⟨512 * i + r.val, by omega⟩ n
  unfold layer
  rw [if_pos (by show (512 * i + r.val) / 512 < live m 0; omega)]
  unfold through
  refine sum_tiles_fin 512 14 rfl _ _ fun s hs => ?_
  have hlt : 14 * i + s < (cfgM (tbl m) hr).N := by omega
  rw [dif_pos hlt]
  have e1 : (14 * i + s) / 14 = i := by omega
  have e2 : (14 * i + s) % 14 = s := by omega
  have he : eOf m hr ⟨14 * i + s, hlt⟩ = Fin.ofNat 8 (chosen m 0 ⟨(512 * i + r.val) / 512, by omega⟩) := by
    apply Fin.ext
    have e3 : expert (tbl m) ⟨(14 * i + s) / 14, by omega⟩ = chosen m 0 ⟨(512 * i + r.val) / 512, by omega⟩ := by
      rw [expert_live m hr _ (by show (14 * i + s) / 14 < _; omega)]
      congr 1
      exact Fin.ext (by show (14 * i + s) / 14 = (512 * i + r.val) / 512; omega)
    have e4 := hr.expert_lt ⟨(14 * i + s) / 14, by omega⟩
    show expert (tbl m) ⟨(14 * i + s) / 14, _⟩ = _ % 8
    rw [e3] at e4 ⊢
    exact (Nat.mod_eq_of_lt e4).symm
  unfold part
  have hk : ∀ k : Fin 512, (⟨512 * ((14 * i + s) % 14) + k.val, by omega⟩ : Fin 7168) = ⟨512 * s + k.val, by omega⟩ := fun k => Fin.ext (by show 512 * ((14 * i + s) % 14) + k.val = 512 * s + k.val; omega)
  have hx : (⟨512 * ((14 * i + s) / 14) + r.val, by omega⟩ : Fin 38912) = ⟨512 * i + r.val, by omega⟩ := Fin.ext (by show 512 * ((14 * i + s) / 14) + r.val = 512 * i + r.val; omega)
  refine Finset.sum_congr rfl fun k _ => ?_
  dsimp only
  rw [hk k, hx, he]
  rfl

/-- What a point writes back is its block of the layer. -/
theorem flushed_eq (c : Dev nD) (t : Fin (cfgM (tbl m) hr).N) (hf : ((cfgM (tbl m) hr).win 4).flush t = true) :
    (dats (V m) (tbl m) hr 0 c).flushed 4 t = (((cfgM (tbl m) hr).win 4).blk t).view.read (Elt Ideal) (G m c) := by
  have ht := lt_N (tbl m) hr t
  have hN : (cfgM (tbl m) hr).N = 1064 := N_0
  have h1 := hr.one_le
  have e := index4 (tbl m) hr t
  rw [flush4, decide_eq_true_eq] at hf
  have key : ∀ (f g : Vec Ideal S512x2048 .f32), (∀ (r : Fin 512) (d : Fin 2048), f (ix2 r d) = g (ix2 r d)) → f = g := fun f g h =>
    funext fun y => by
      obtain ⟨r, d, rfl⟩ : ∃ (r : Fin 512) (d : Fin 2048), y = ix2 r d := ⟨y 0, y 1, eq_ix2 y⟩
      exact h r d
  refine key (acc (V m) (tbl m) hr c t.val t.isLt) _ fun r n => ?_
  have hb : 14 * min (t.val / 14) (count (tbl m) - 1) + 13 < (cfgM (tbl m) hr).N := by omega
  have ea : acc (V m) (tbl m) hr c t.val t.isLt = acc (V m) (tbl m) hr c (14 * min (t.val / 14) (count (tbl m) - 1) + 13) hb := by
    have cg : ∀ (a b : ℕ) (ha : a < (cfgM (tbl m) hr).N) (hb : b < (cfgM (tbl m) hr).N), a = b → acc (V m) (tbl m) hr c a ha = acc (V m) (tbl m) hr c b hb := by
      intro a b ha hb hab; subst hab; rfl
    by_cases hl : t.val / 14 < count (tbl m)
    · exact cg _ _ _ _ (by omega)
    · have hm : min (t.val / 14) (count (tbl m) - 1) = count (tbl m) - 1 := by omega
      refine (cg _ (14 * (count (tbl m) - 1) + 13 + (t.val - (14 * (count (tbl m) - 1) + 13))) _ (by omega) (by omega)).trans ?_
      exact (acc_tail m hr c (by omega) _ _).trans (cg _ _ _ _ (by omega))
  rw [ea, acc_full m hr c _ (by omega) (by omega) r n hb]
  show _ = G m c ((((cfgM (tbl m) hr).win 4).blk t).view.emb (ix2 r n))
  congr 1
  symm
  apply Shape.idx_ext₂
  · show ((cfgM (tbl m) hr).win 4).index t (0 : Fin 2) * 512 + 1 * r.val = 512 * min (t.val / 14) (count (tbl m) - 1) + r.val
    rw [e]; show min (t.val / 14) (count (tbl m) - 1) * 512 + 1 * r.val = _; omega
  · show ((cfgM (tbl m) hr).win 4).index t (1 : Fin 2) * 2048 + 1 * n.val = n.val
    rw [e]; show 0 * 2048 + 1 * n.val = _; omega

/-- An index is in point `t`'s block iff each coordinate is in the block's range. -/
theorem mem_blk (t : Fin (cfgM (tbl m) hr).N) (i : S38912x2048.Idx) :
    i ∈ (((cfgM (tbl m) hr).win 4).blk t).view.set ↔ ∀ a : Fin 2, ((cfgM (tbl m) hr).win 4).index t a * S512x2048.size a ≤ (i a).val
      ∧ (i a).val < ((cfgM (tbl m) hr).win 4).index t a * S512x2048.size a + S512x2048.size a := by
  show i ∈ ((View.whole main_v16).slice (((cfgM (tbl m) hr).win 4).rect t)).set ↔ _
  refine (iff_of_eq (congrArg (fun S : Finset S38912x2048.Idx => i ∈ S) (View.set_slice_whole main_v16 (((cfgM (tbl m) hr).win 4).rect t)))).trans ?_
  exact Rect.mem_set_unit

/-- Every row of a live tile is written back by some point. -/
theorem covered (i : S38912x2048.Idx) (h : (i 0).val / 512 < count (tbl m)) :
    ∃ t : Fin (cfgM (tbl m) hr).N, ((cfgM (tbl m) hr).win 4).flush t = true ∧ i ∈ (((cfgM (tbl m) hr).win 4).blk t).view.set := by
  have hN : (cfgM (tbl m) hr).N = 1064 := N_0
  have h0 : (i 0).val < 38912 := (i 0).isLt
  have h1 : (i 1).val < 2048 := (i 1).isLt
  obtain ⟨n, hn, hb, hf⟩ : ∃ n, n < 1064 ∧ min (n / 14) (count (tbl m) - 1) = (i 0).val / 512
      ∧ (n + 1 = 1064 ∨ min ((n + 1) / 14) (count (tbl m) - 1) ≠ min (n / 14) (count (tbl m) - 1)) := by
    by_cases hl : (i 0).val / 512 + 1 < count (tbl m)
    · exact ⟨14 * ((i 0).val / 512) + 13, by omega, by omega, by omega⟩
    · exact ⟨1063, by omega, by omega, by omega⟩
  refine ⟨⟨n, by omega⟩, ?_, ?_⟩
  · rw [flush4, decide_eq_true_eq]; exact hf
  · have e := index4 (tbl m) hr ⟨n, by omega⟩
    rw [mem_blk]
    intro a
    match a with
    | ⟨0, _⟩ =>
      show ((cfgM (tbl m) hr).win 4).index ⟨n, _⟩ (0 : Fin 2) * 512 ≤ (i 0).val ∧ (i 0).val < ((cfgM (tbl m) hr).win 4).index ⟨n, _⟩ (0 : Fin 2) * 512 + 512
      rw [e]
      show min (n / 14) (count (tbl m) - 1) * 512 ≤ (i 0).val ∧ (i 0).val < min (n / 14) (count (tbl m) - 1) * 512 + 512
      omega
    | ⟨1, _⟩ =>
      show ((cfgM (tbl m) hr).win 4).index ⟨n, _⟩ (1 : Fin 2) * 2048 ≤ (i 1).val ∧ (i 1).val < ((cfgM (tbl m) hr).win 4).index ⟨n, _⟩ (1 : Fin 2) * 2048 + 2048
      rw [e]
      show 0 * 2048 ≤ (i 1).val ∧ (i 1).val < 0 * 2048 + 2048
      omega

/-- The result array after the run, at an index. -/
theorem final_at (c : Dev nD) (i : S38912x2048.Idx) : (dats (V m) (tbl m) hr 0 c).arrAt 4 (cfgM (tbl m) hr).N i = G m c i := by
  refine ((dats (V m) (tbl m) hr 0 c).arrAt_eq_piecewise 4 (G m c) (fun t hf => flushed_eq m hr c t hf) i).trans ?_
  by_cases h : ∃ t : Fin (cfgM (tbl m) hr).N, ((cfgM (tbl m) hr).win 4).flush t = true ∧ i ∈ (((cfgM (tbl m) hr).win 4).blk t).view.set
  · exact if_pos h
  · refine (if_neg h).trans ?_
    have hd : ¬ ((i 0).val / 512 < count (tbl m)) := fun hl => h (covered m hr i hl)
    rw [count_tbl] at hd
    obtain rfl : c = 0 := Subsingleton.elim _ _
    refine Eq.trans ?_ (if_neg hd).symm
    refine (congrFun (V_zero m 0) i).trans ?_
    show Scalar.ofBits (F := Ideal) .f32 0x00000000#32 = (0 : EReal)
    exact pay2_at 0 0

/-- The result array after the run. -/
theorem final (c : Dev nD) : (dats (V m) (tbl m) hr 0 c).arrAt 4 (cfgM (tbl m) hr).N = G m c :=
  funext fun i => final_at m hr c i

end Cert.Expert

end
-- ==== Proof.ExpertReference.lean ====
/-
  What the plain reference of the expert layer computes: every expert on every row, times one at the row's own
  expert and zero at the others, which is the row through its own expert.
-/
module

public import proofs.«01_k».proof.Proof.Gen.ReferenceIdeal.Run
public import proofs.«01_k».proof.Proof.ExpertValue

@[expose] public section

set_option maxRecDepth 16384

noncomputable section

namespace Cert.Expert

open Cert.ReferenceIdeal Cert.ReferenceIdeal.Gen
open Idealize.ShloMosaic Idealize.ShloMosaic.TcCoe Idealize.SL.Sem
open Idealize.ShloMosaic.WordCmp
open scoped BigOperators

/-- One expert's part of the reference: the combine matrix's column times the expert's gated layer. -/
def weighted (col : FVec Ideal S38912x1 .f32) (x : FVec Ideal S38912x2048 .f32) (g u : FVec Ideal S1x2048x7168 .f32)
    (d : FVec Ideal S1x7168x2048 .f32) : FVec Ideal S38912x2048 .f32 :=
  mulf (broadcastInDim S38912x2048 ![0, 1] bcast_S38912x1_S38912x2048_0_1 col)
    (Host.dotGeneral dot_S38912x7168_S7168x2048_S38912x2048_1_0_0_1_n_n none
      (mulf (mulf (Host.dotGeneral dot_S38912x2048_S2048x7168_S38912x7168_1_0_0_1_n_n none x (shapeCast _ g shapeCasts_S1x2048x7168_S2048x7168))
          (Host.divf (broadcastInDim S38912x7168 ![] bcast_S_S38912x7168 (constant S_ .f32 0x3F800000#32))
            (addf (broadcastInDim S38912x7168 ![] bcast_S_S38912x7168 (constant S_ .f32 0x3F800000#32))
              (Host.exp (Host.negf (Host.dotGeneral dot_S38912x2048_S2048x7168_S38912x7168_1_0_0_1_n_n none x (shapeCast _ g shapeCasts_S1x2048x7168_S2048x7168)))))))
        (Host.dotGeneral dot_S38912x2048_S2048x7168_S38912x7168_1_0_0_1_n_n none x (shapeCast _ u shapeCasts_S1x2048x7168_S2048x7168)))
      (shapeCast _ d shapeCasts_S1x7168x2048_S7168x2048))

theorem weighted_at (col : FVec Ideal S38912x1 .f32) (x : FVec Ideal S38912x2048 .f32) (g u : FVec Ideal S1x2048x7168 .f32)
    (d : FVec Ideal S1x7168x2048 .f32) (r : Fin 38912) (n : Fin 2048) :
    weighted col x g u d (ix2 r n) = col (ix2 r 0) * ∑ q : Fin 7168, Swiglu.hidden (fun k : Fin 2048 => x (ix2 r k))
      (fun k => g (ix3 0 k q)) (fun k => u (ix3 0 k q)) * d (ix3 0 q n) := by
  pointwise [weighted]
  rfl

/-- The combine matrix. -/
def combine (te : IVec S76 32) (nt : IVec S1 32) : FVec Ideal S38912x8 .f32 :=
  shapeCast _ (broadcastInDim S76x512x8 ![0, 2] bcast_S76x8_S76x512x8_0_2 (uitofp .f32 (cmpi .eq (broadcastInDim S76x8 ![0, 1] bcast_S76x1_S76x8_0_1 (broadcastInDim S76x1 ![0] bcast_S76_S76x1_0 (select (cmpi .slt (iotaInDim S76 32 0) (broadcastInDim S76 ![] bcast_S_S76 (shapeCast _ nt shapeCasts_S1_S_))) te (broadcastInDim S76 ![] bcast_S_S76 (id (constantI S_ 32 8#32)))))) (broadcastInDim S76x8 ![0, 1] bcast_S1x8_S76x8_0_1 (iotaInDim S1x8 32 1))))) shapeCasts_S76x512x8_S38912x8

/-- It is one at the tile's expert, when the tile is live, and zero elsewhere. -/
theorem combine_at (te : IVec S76 32) (nt : IVec S1 32) (h : Ranged te nt) (r : Fin 38912) (e : Fin 8) :
    combine te nt (ix2 r e) = if r.val / 512 < (nt (ix1 0)).toNat ∧
      Fin.ofNat 8 (te (ix1 ⟨r.val / 512, by omega⟩)).toNat = e then 1 else 0 := by
  obtain ⟨⟨h1, h2⟩, h3⟩ := h
  have h4 := h3 ⟨r.val / 512, by omega⟩
  have hi : (BitVec.ofNat 32 (r.val / 512)).toNat = r.val / 512 := by rw [BitVec.toNat_ofNat]; omega
  have hc : IntOp.cmpi CmpIPredicate.slt (BitVec.ofNat 32 (r.val / 512)) (nt (ix1 0)) = BitVec.ofBool (decide (r.val / 512 < (nt (ix1 0)).toNat)) := by
    rw [cmpi_slt_eq, BitVec.toInt_eq_toNat_cond, BitVec.toInt_eq_toNat_cond, hi]
    congr 1
    have := r.isLt
    simp only [decide_eq_decide]
    omega
  pointwise [combine]
  rw [hc]
  have he : (BitVec.ofNat 32 e.val).toNat = e.val := by rw [BitVec.toNat_ofNat]; omega
  show ((BitVec.toNat _ : ℝ) : EReal) = _
  by_cases hl : r.val / 512 < (nt (ix1 0)).toNat
  · rw [decide_eq_true hl]
    show ((BitVec.toNat (IntOp.cmpi CmpIPredicate.eq (te (ix1 ⟨r.val / 512, _⟩)) (BitVec.ofNat 32 e.val)) : ℝ) : EReal) = _
    by_cases hx : te (ix1 ⟨r.val / 512, by omega⟩) = BitVec.ofNat 32 e.val
    · rw [if_pos ⟨hl, Fin.ext (by rw [hx, he]; exact Nat.mod_eq_of_lt e.isLt)⟩, hx]
      simp [IntOp.cmpi]
    · rw [if_neg (fun hh => hx (BitVec.eq_of_toNat_eq (by
        rw [he, ← hh.2]; exact (Nat.mod_eq_of_lt h4).symm)))]
      simp [IntOp.cmpi, hx]
  · rw [decide_eq_false hl, if_neg (fun hh => hl hh.1)]
    show ((BitVec.toNat (IntOp.cmpi CmpIPredicate.eq (8#32) (BitVec.ofNat 32 e.val)) : ℝ) : EReal) = _
    have hx : 8#32 ≠ BitVec.ofNat 32 e.val := fun hh => by
      have := congrArg BitVec.toNat hh
      rw [he] at this
      have := e.isLt
      simp at *
      omega
    simp [IntOp.cmpi, hx]

/-- Eight terms of which one counts. -/
theorem one_of_eight (t : Fin 8 → EReal) (p : Prop) [Decidable p] (v : Fin 8) (w : Fin 8 → EReal)
    (hw : ∀ e, w e = if p ∧ v = e then 1 else 0) (z : EReal) (hz : z = 0) :
    z + w 0 * t 0 + w 1 * t 1 + w 2 * t 2 + w 3 * t 3 + w 4 * t 4 + w 5 * t 5 + w 6 * t 6 + w 7 * t 7 = if p then t v else 0 := by
  have key : ∀ e, w e * t e = if v = e then (if p then t v else 0) else 0 := fun e => by
    rw [hw]
    by_cases h : v = e
    · subst h; by_cases hp : p <;> simp [hp]
    · simp [h]
  simp only [key, hz, zero_add]
  have := Finset.sum_ite_eq Finset.univ v (fun _ => if p then t v else 0)
  rw [if_pos (Finset.mem_univ v), Fin.sum_univ_eight] at this
  exact this

/-- The experts' part `e`, its column and its weights cut out of the arrays. -/
theorem cut_at (te : IVec S76 32) (nt : IVec S1 32) (x : FVec Ideal S38912x2048 .f32) (wg wu : FVec Ideal S8x2048x7168 .f32)
    (wd : FVec Ideal S8x7168x2048 .f32) (e : Fin 8) (h1 : S38912x8.Slices ![0, e.val] S38912x1)
    (h2 : S8x2048x7168.Slices ![e.val, 0, 0] S1x2048x7168) (h3 : S8x7168x2048.Slices ![e.val, 0, 0] S1x7168x2048)
    (r : Fin 38912) (n : Fin 2048) :
    weighted (extractStridedSlice S38912x1 ![0, e.val] (combine te nt) h1) x (extractStridedSlice S1x2048x7168 ![e.val, 0, 0] wg h2)
      (extractStridedSlice S1x2048x7168 ![e.val, 0, 0] wu h2) (extractStridedSlice S1x7168x2048 ![e.val, 0, 0] wd h3) (ix2 r n)
      = combine te nt (ix2 r e) * through x wg wu wd e r n := by
  rw [weighted_at]
  have hg : ∀ (w : FVec Ideal S8x2048x7168 .f32) (k : Fin 2048) (q : Fin 7168),
      extractStridedSlice S1x2048x7168 ![e.val, 0, 0] w h2 (ix3 0 k q) = w (ix3 e k q) := fun w k q => by
    refine congrArg w (funext fun a => Fin.ext ?_)
    fin_cases a <;> simp [ix3]
  have hd : ∀ (w : FVec Ideal S8x7168x2048 .f32) (q : Fin 7168),
      extractStridedSlice S1x7168x2048 ![e.val, 0, 0] w h3 (ix3 0 q n) = w (ix3 e q n) := fun w q => by
    refine congrArg w (funext fun a => Fin.ext ?_)
    fin_cases a <;> simp [ix3]
  have hc : extractStridedSlice S38912x1 ![0, e.val] (combine te nt) h1 (ix2 r 0) = combine te nt (ix2 r e) := by
    refine congrArg (combine te nt) (funext fun a => Fin.ext ?_)
    fin_cases a <;> simp [ix2]
  simp only [hg, hd, hc]
  rfl

/-- The reference runs to the layer's array, where the precondition holds. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (Ranged (m ((c.tc : Thread nD τ).loc main_arg1)) (m ((c.tc : Thread nD τ).loc main_arg2)) →
        r.2.mem ((c.tc : Thread nD τ).loc main_v128) = (fun i => layer (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (i 0) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨fun hr => (h c).1.trans (funext fun i => by
      obtain ⟨a, b, rfl⟩ : ∃ (a : Fin 38912) (b : Fin 2048), i = ix2 a b := ⟨i 0, i 1, eq_ix2 i⟩
      refine Eq.trans ?_ (one_of_eight (fun e => through (m ((c.tc : Thread nD τ).loc main_arg0)) (m ((c.tc : Thread nD τ).loc main_arg3))
        (m ((c.tc : Thread nD τ).loc main_arg4)) (m ((c.tc : Thread nD τ).loc main_arg5)) e a b) _ _ _ (combine_at _ _ hr a)
        ((broadcastInDim S38912x2048 ![] bcast_S_S38912x2048 (constant (F := Ideal) S_ .f32 0x00000000#32)) (ix2 a b)) (by pointwise))
      have cut := fun e h1 h2 h3 => cut_at (m ((c.tc : Thread nD τ).loc main_arg1)) (m ((c.tc : Thread nD τ).loc main_arg2))
        (m ((c.tc : Thread nD τ).loc main_arg0)) (m ((c.tc : Thread nD τ).loc main_arg3))
        (m ((c.tc : Thread nD τ).loc main_arg4)) (m ((c.tc : Thread nD τ).loc main_arg5)) e h1 h2 h3 a b
      rw [← cut 0 slices_S38912x8_S38912x1_0_0 slices_S8x2048x7168_S1x2048x7168_0_0_0 slices_S8x7168x2048_S1x7168x2048_0_0_0,
        ← cut 1 slices_S38912x8_S38912x1_0_1 slices_S8x2048x7168_S1x2048x7168_1_0_0 slices_S8x7168x2048_S1x7168x2048_1_0_0,
        ← cut 2 slices_S38912x8_S38912x1_0_2 slices_S8x2048x7168_S1x2048x7168_2_0_0 slices_S8x7168x2048_S1x7168x2048_2_0_0,
        ← cut 3 slices_S38912x8_S38912x1_0_3 slices_S8x2048x7168_S1x2048x7168_3_0_0 slices_S8x7168x2048_S1x7168x2048_3_0_0,
        ← cut 4 slices_S38912x8_S38912x1_0_4 slices_S8x2048x7168_S1x2048x7168_4_0_0 slices_S8x7168x2048_S1x7168x2048_4_0_0,
        ← cut 5 slices_S38912x8_S38912x1_0_5 slices_S8x2048x7168_S1x2048x7168_5_0_0 slices_S8x7168x2048_S1x7168x2048_5_0_0,
        ← cut 6 slices_S38912x8_S38912x1_0_6 slices_S8x2048x7168_S1x2048x7168_6_0_0 slices_S8x7168x2048_S1x7168x2048_6_0_0,
        ← cut 7 slices_S38912x8_S38912x1_0_7 slices_S8x2048x7168_S1x2048x7168_7_0_0 slices_S8x7168x2048_S1x7168x2048_7_0_0]
      rfl), (h c).2⟩)
    (Value.run m ρ)

end Cert.Expert

end
-- ==== Proof.ExpertText.lean ====
/-
  The expert kernel at the machine's words and its ideal program are one text: the two bodies, the two body
  tables and the two mains are equal, over any floats, and so are their runs.
-/
module

public import proofs.«01_k».proof.Proof.ExpertRouted
public import proofs.«01_k».proof.Proof.Gen.Kernel

@[expose] public section

set_option maxRecDepth 16384

noncomputable section

namespace Cert.Expert

open Idealize.ShloMosaic Idealize.ShloMosaic.TcCoe Idealize.SL.Sem

variable {F : FTy → Type} [FloatOps F]

theorem body_text : @Cert.Kernel.cc0_moe_ffn F _ _ = @Cert.KernelIdeal.cc0_moe_ffn F _ _ := by
  funext a b c d e f
  unfold Cert.Kernel.cc0_moe_ffn Cert.KernelIdeal.cc0_moe_ffn
  rfl

theorem bodies_text : Cert.Kernel.defs₀ (F := F) = Cert.KernelIdeal.defs₀ := by
  unfold Cert.Kernel.defs₀ Cert.KernelIdeal.defs₀
  refine congrArg Defs.onTc ?_
  funext l x
  match l, x with
  | 0, (t, s) => rfl

theorem defs_text : Cert.Kernel.defs (F := F) = Cert.KernelIdeal.defs :=
  congrArg (Pipeline.defs Cert.KernelIdeal.pcfgs) bodies_text

set_option maxHeartbeats 2000000 in
theorem main_text : Cert.Kernel.main (F := F) = Cert.KernelIdeal.main := by
  funext c
  unfold Cert.Kernel.main Cert.KernelIdeal.main
  rfl

section
open Cert.KernelIdeal

/-- The kernel's run, from any memory with zero counters, has the frame its ideal program's text has. -/
theorem frame_text (m : (ℓ : Loc nD τ sig) → Buf (Elt F) ℓ) (ρ : Dev nD → PrngReg) (hr : Routed (tbl m)) :
    θ_run (Cert.Kernel.defs (F := F)) (onTc (τ := τ) (Cert.Kernel.main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) := by
  have key : ∀ (d : Defs nD τ sig (Elt F) (Pipeline.Sig Λ₀ (Fin 1) fun p => (pcfgs (F := F) p).Adm))
      (p : Dev nD → Prog (TpuEff nD τ sig (Elt F) (Pipeline.Sig Λ₀ (Fin 1) fun p => (pcfgs (F := F) p).Adm) .tc) PUnit)
      (Q : PUnit × MemSt nD τ sig (Elt F) → Prop), d = defs → p = main →
      θ_run defs (onTc (τ := τ) main) ⟨m, fun _ => 0, ρ⟩ Q → θ_run d (onTc (τ := τ) p) ⟨m, fun _ => 0, ρ⟩ Q := by
    rintro _ _ _ rfl rfl h
    exact h
  exact key _ _ _ defs_text main_text ((θ_run defs _ _).mono (fun _ h => ⟨fun c => (h.1 c).2, h.2⟩) (run_result m ρ hr))

end

end Cert.Expert

end
-- ==== Proof.lean ====
/-
  The certificate: the expert layer (program 1), the dense layer (program 2), the even and the odd layer's input
  projections (programs 3 and 4), the per-layer embedding (program 5),
  the output projection (program 6) and the second normalization (program 7), each with its frames, its idealization and its
  equation with the plain reference; and the frames and the idealization of the prompts' differential attention (program 8).
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_routed
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.References
public import proofs.«01_k».proof.Proof.OddProjection
public import proofs.«01_k».proof.Proof.Embedding
public import proofs.«01_k».proof.Proof.OutProjection
public import proofs.«01_k».proof.Proof.SumNorm
public import proofs.«01_k».proof.Proof.ExpertReference
public import proofs.«01_k».proof.Proof.ExpertText
public import Idealize.ShloMosaic.Adequacy
public import Idealize.ShloMosaic.Init
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame

@[expose] public section

noncomputable section

namespace Cert.Proof

open Idealize.ShloMosaic Idealize.ShloMosaic.TcCoe Idealize.SL.Sem

/-- The expert kernel terminates and leaves its arguments and counters as they were: its text is that of the ideal
    program, whose run is over any floats. -/
theorem frame_kernel : Cert.quiescent_Kernel (hPre_routed := Cert.Pre_routed.Gen.facts) := fun m ρ hp => by
  have hr : Cert.Expert.Ranged (m (((0 : Dev Cert.Kernel.nD).tc : Thread Cert.Kernel.nD Cert.Kernel.τ).loc Cert.Kernel.main_arg1))
      (m (((0 : Dev Cert.Kernel.nD).tc : Thread Cert.Kernel.nD Cert.Kernel.τ).loc Cert.Kernel.main_arg2)) :=
    Cert.Expert.ranged (F := Bits) _ _ _ _ _ _ (hp 0)
  exact Cert.Expert.frame_text (F := Bits) m ρ (Cert.Expert.routed_of m hr)

/-- The same of the ideal program. -/
theorem frame_kernelIdeal : Cert.quiescent_KernelIdeal (hPre_routed := Cert.Pre_routed.Gen.facts) := fun m ρ hp =>
  (θ_run Cert.KernelIdeal.defs _ _).mono (fun _ h => ⟨fun c => (h.1 c).2, h.2⟩)
    (Cert.Expert.run_result (F := Ideal) m ρ (Cert.Expert.routed_of m (Cert.Expert.ranged _ _ _ _ _ _ (hp 0))))

/-- The expert layer's reference terminates and leaves its arguments and counters as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Expert.reference_run m ρ)

/-- The expert kernel and its reference compute the same array. -/
theorem algebraic : Cert.algebraic_KernelIdeal_ReferenceIdeal (hPre_routed := Cert.Pre_routed.Gen.facts) :=
  fun m ρ m' ρ' hp hag => by
    have hr : ∀ c : Dev Cert.KernelIdeal.nD, Cert.Expert.Ranged (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) :=
      fun c => Cert.Expert.ranged _ _ _ _ _ _ (hp c)
    refine ⟨fun c => Cert.Expert.G m c, (θ_run _ _ _).mono (fun _ h c => ⟨(h.1 c).1.trans (Cert.Expert.final m _ c), (h.1 c).2⟩)
      (Cert.Expert.run_result m ρ (Cert.Expert.routed_of m (hr 0))), ?_⟩
    refine (θ_run _ _ _).mono (fun _ h c => ⟨((h c).1 ?_).trans ?_, (h c).2⟩) (Cert.Expert.reference_run m' ρ')
    · rw [(hag c).2.1, (hag c).2.2.1]; exact hr c
    · rw [(hag c).1, (hag c).2.1, (hag c).2.2.1, (hag c).2.2.2.1, (hag c).2.2.2.2.1, (hag c).2.2.2.2.2]; rfl

/-- The dense layer's reference terminates and leaves its arguments and counters as they were. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Dense.reference_run m ρ)

/-- The projection's reference terminates and leaves its arguments and counters as they were. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Projection.reference_run m ρ)

/-- The odd projection's reference terminates and leaves its arguments and counters as they were. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.OddProjection.reference_run m ρ)

/-- The embedding's reference terminates and leaves its arguments and counters as they were. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Embedding.reference_run m ρ)

/-- The output projection's reference terminates and leaves its arguments and counters as they were. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.OutProjection.reference_run m ρ)

/-- The second normalization's reference terminates and leaves its arguments and counters as they were. -/
theorem frame_reference7 : Cert.quiescent_Reference7Ideal := fun m ρ _ =>
  (θ_run Cert.Reference7Ideal.defs _ _).mono (fun r h => ⟨fun c => (h c).2.2, sem_eq_zero_of_no_sems (by decide) r.2⟩)
    (Cert.SumNorm.reference_run m ρ)

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts,
  Cert.Pre_routed.Gen.facts,
  frame_kernel, frame_kernelIdeal, frame_reference, fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  trivial, algebraic,
  trivial,
  fun m ρ m' ρ' _ hag => ⟨fun c => Cert.Kernel2Ideal.Value.G4 m c, Cert.Kernel2Ideal.Value.run m ρ,
    (θ_run _ _ _).mono (fun _ h c => ⟨(h c).1.trans (by
      rw [(hag c).1, (hag c).2.1, (hag c).2.2.1, (hag c).2.2.2]
      exact (Cert.Dense.G4_eq m c).symm), (h c).2⟩) (Cert.Dense.reference_run m' ρ')⟩,
  trivial,
  fun m ρ m' ρ' _ hag => ⟨fun c => Cert.Projection.G m c,
    (θ_run _ _ _).mono (fun _ h c => ⟨(h c).1.trans (Cert.Projection.final m c), (h c).2⟩)
      (Cert.Kernel3Ideal.Value.run_blocks m ρ),
    (θ_run _ _ _).mono (fun _ h c => ⟨(h c).1.trans (by
      rw [(hag c).1, (hag c).2.1, (hag c).2.2]
      rfl), (h c).2⟩) (Cert.Projection.reference_run m' ρ')⟩,
  trivial,
  fun m ρ m' ρ' _ hag => ⟨fun c => Cert.OddProjection.G m c,
    (θ_run _ _ _).mono (fun _ h c => ⟨(h c).1.trans (Cert.OddProjection.final m c), (h c).2⟩)
      (Cert.Kernel4Ideal.Value.run_blocks m ρ),
    (θ_run _ _ _).mono (fun _ h c => ⟨(h c).1.trans (by
      rw [(hag c).1, (hag c).2]
      rfl), (h c).2⟩) (Cert.OddProjection.reference_run m' ρ')⟩,
  trivial,
  fun m ρ m' ρ' _ hag => ⟨fun c => Cert.Embedding.G m c,
    (θ_run _ _ _).mono (fun _ h c => ⟨(h c).1.trans (Cert.Embedding.final m c), (h c).2⟩)
      (Cert.Kernel5Ideal.Value.run_blocks m ρ),
    (θ_run _ _ _).mono (fun _ h c => ⟨(h c).1.trans (by
      rw [(hag c).1, (hag c).2.1, (hag c).2.2.1, (hag c).2.2.2.1, (hag c).2.2.2.2]
      rfl), (h c).2⟩) (Cert.Embedding.reference_run m' ρ')⟩,
  trivial,
  fun m ρ m' ρ' _ hag => ⟨fun c => Cert.OutProjection.G5 m c, fun c => Cert.OutProjection.G6 m c,
    (θ_run _ _ _).mono (fun _ h c => ⟨(h c).1.trans (Cert.OutProjection.final5 m c),
      (h c).2.1.trans (Cert.OutProjection.final6 m c), (h c).2.2⟩) (Cert.Kernel6Ideal.Value.run_blocks m ρ),
    (θ_run _ _ _).mono (fun _ h c => ⟨(h c).1.trans (by
        unfold Cert.OutProjection.result
        rw [(hag c).1, (hag c).2.1, (hag c).2.2.1, (hag c).2.2.2.1, (hag c).2.2.2.2]
        rfl), (h c).2.1.trans (by
        unfold Cert.OutProjection.result
        rw [(hag c).1, (hag c).2.1, (hag c).2.2.1, (hag c).2.2.2.1, (hag c).2.2.2.2]
        rfl), (h c).2.2⟩) (Cert.OutProjection.reference_run m' ρ')⟩,
  trivial,
  fun m ρ m' ρ' _ hag => ⟨fun c => Cert.SumNorm.G5 m c, fun c => Cert.SumNorm.G6 m c,
    (θ_run _ _ _).mono (fun _ h c => ⟨(h c).1.trans (Cert.SumNorm.final5 m c),
      (h c).2.1.trans (Cert.SumNorm.final6 m c), (h c).2.2⟩) (Cert.Kernel7Ideal.Value.run_blocks m ρ),
    (θ_run _ _ _).mono (fun _ h c => ⟨(h c).1.trans (by
        unfold Cert.SumNorm.result
        rw [(hag c).1, (hag c).2.1, (hag c).2.2.1, (hag c).2.2.2.1, (hag c).2.2.2.2]
        rfl), (h c).2.1.trans (by
        unfold Cert.SumNorm.result
        rw [(hag c).1, (hag c).2.1, (hag c).2.2.1, (hag c).2.2.2.1, (hag c).2.2.2.2]
        rfl), (h c).2.2⟩) (Cert.SumNorm.reference_run m' ρ')⟩,
  trivial⟩

end Cert.Proof

end
